-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1024x8192 : Shape := ⟨2, ![1024, 8192]⟩
abbrev S2x1024x1024 : Shape := ⟨3, ![2, 1024, 1024]⟩
abbrev S32x128 : Shape := ⟨2, ![32, 128]⟩
abbrev S_ : Shape := ⟨0, ![]⟩
abbrev S2 : Shape := ⟨1, ![2]⟩
abbrev S4 : Shape := ⟨1, ![4]⟩
abbrev S1024x1024 : Shape := ⟨2, ![1024, 1024]⟩
abbrev S1 : Shape := ⟨1, ![1]⟩
abbrev S1x1024x1024 : Shape := ⟨3, ![1, 1024, 1024]⟩
abbrev S1x1x1 : Shape := ⟨3, ![1, 1, 1]⟩
abbrev S8x128 : Shape := ⟨2, ![8, 128]⟩
abbrev S1x32x128 : Shape := ⟨3, ![1, 32, 128]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .f32⟩
  | .hbm, ⟨2, _⟩ => ⟨S1024x8192, .f32⟩
  | .local _ .vmem, ⟨0, _⟩ => ⟨S1024x8192, .f32⟩
  | .local _ .vmem, ⟨1, _⟩ => ⟨S4096x1024, .bf16⟩
  | .local _ .vmem, ⟨2, _⟩ => ⟨S2x1024x1024, .f32⟩
  | .local _ .vmem, ⟨3, _⟩ => ⟨S32x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v43 : BitVec 32 := Scalar.muli v2 c1024_i32
  let c0_i32_30 : BitVec 32 := 0#32
  ![v43.toNat, 0]
def k0_off2 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v46 : BitVec 32 := Scalar.addi v2 c1_i32_31
  let c4_i32_32 : BitVec 32 := 4#32
  let c0_i32_33 : BitVec 32 := 0#32
  let v47 : BitVec 1 := Scalar.cmpi .eq c4_i32_32 c0_i32_33
  let c1_i32_34 : BitVec 32 := 1#32
  let v48 : BitVec 32 := Scalar.select v47 c1_i32_34 c4_i32_32
  let v49 : BitVec 32 := Scalar.remsi v46 v48
  let c0_i32_36 : BitVec 32 := 0#32
  let v51 : BitVec 1 := Scalar.cmpi .slt v49 c0_i32_36
  let c0_i32_37 : BitVec 32 := 0#32
  let v52 : BitVec 1 := Scalar.cmpi .slt v48 c0_i32_37
  let v53 : BitVec 1 := Scalar.xori v51 v52
  let c0_i32_35 : BitVec 32 := 0#32
  let v50 : BitVec 1 := Scalar.cmpi .ne v49 c0_i32_35
  let v54 : BitVec 1 := Scalar.andi v53 v50
  let v55 : BitVec 32 := Scalar.addi v49 v48
  let v56 : BitVec 32 := Scalar.select v54 v55 v49
  let c1024_i32_38 : BitVec 32 := 1024#32
  let v57 : BitVec 32 := Scalar.muli v56 c1024_i32_38
  let c0_i32_44 : BitVec 32 := 0#32
  ![v57.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v46 : BitVec 32 := Scalar.addi v2 c1_i32_31
  let c4_i32_32 : BitVec 32 := 4#32
  let c0_i32_33 : BitVec 32 := 0#32
  let v47 : BitVec 1 := Scalar.cmpi .eq c4_i32_32 c0_i32_33
  let c1_i32_34 : BitVec 32 := 1#32
  let v48 : BitVec 32 := Scalar.select v47 c1_i32_34 c4_i32_32
  let v49 : BitVec 32 := Scalar.remsi v46 v48
  let c0_i32_36 : BitVec 32 := 0#32
  let v51 : BitVec 1 := Scalar.cmpi .slt v49 c0_i32_36
  let c0_i32_37 : BitVec 32 := 0#32
  let v52 : BitVec 1 := Scalar.cmpi .slt v48 c0_i32_37
  let v53 : BitVec 1 := Scalar.xori v51 v52
  let c0_i32_35 : BitVec 32 := 0#32
  let v50 : BitVec 1 := Scalar.cmpi .ne v49 c0_i32_35
  let v54 : BitVec 1 := Scalar.andi v53 v50
  let v55 : BitVec 32 := Scalar.addi v49 v48
  let v56 : BitVec 32 := Scalar.select v54 v55 v49
  let c1_i32_41 : BitVec 32 := 1#32
  let v58 : BitVec 32 := Scalar.muli v56 c1_i32_41
  let v59 : BitVec 32 := Scalar.addi c0_i32_42 v58
  v59.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_45 : BitVec 32 := 3#32
  let v66 : BitVec 32 := Scalar.addi v2 c3_i32_45
  let c4_i32_46 : BitVec 32 := 4#32
  let c0_i32_47 : BitVec 32 := 0#32
  let v67 : BitVec 1 := Scalar.cmpi .eq c4_i32_46 c0_i32_47
  let c1_i32_48 : BitVec 32 := 1#32
  let v68 : BitVec 32 := Scalar.select v67 c1_i32_48 c4_i32_46
  let v69 : BitVec 32 := Scalar.remsi v66 v68
  let c0_i32_50 : BitVec 32 := 0#32
  let v71 : BitVec 1 := Scalar.cmpi .slt v69 c0_i32_50
  let c0_i32_51 : BitVec 32 := 0#32
  let v72 : BitVec 1 := Scalar.cmpi .slt v68 c0_i32_51
  let v73 : BitVec 1 := Scalar.xori v71 v72
  let c0_i32_49 : BitVec 32 := 0#32
  let v70 : BitVec 1 := Scalar.cmpi .ne v69 c0_i32_49
  let v74 : BitVec 1 := Scalar.andi v73 v70
  let v75 : BitVec 32 := Scalar.addi v69 v68
  let v76 : BitVec 32 := Scalar.select v74 v75 v69
  let c1_i32_55 : BitVec 32 := 1#32
  let v78 : BitVec 32 := Scalar.muli v76 c1_i32_55
  let v79 : BitVec 32 := Scalar.addi c0_i32_56 v78
  v79.toNat
def k0_dev6 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v86 : BitVec 32 := Scalar.addi v2 c2_i32_60
  let c4_i32_61 : BitVec 32 := 4#32
  let c0_i32_62 : BitVec 32 := 0#32
  let v87 : BitVec 1 := Scalar.cmpi .eq c4_i32_61 c0_i32_62
  let c1_i32_63 : BitVec 32 := 1#32
  let v88 : BitVec 32 := Scalar.select v87 c1_i32_63 c4_i32_61
  let v89 : BitVec 32 := Scalar.remsi v86 v88
  let c0_i32_65 : BitVec 32 := 0#32
  let v91 : BitVec 1 := Scalar.cmpi .slt v89 c0_i32_65
  let c0_i32_66 : BitVec 32 := 0#32
  let v92 : BitVec 1 := Scalar.cmpi .slt v88 c0_i32_66
  let v93 : BitVec 1 := Scalar.xori v91 v92
  let c0_i32_64 : BitVec 32 := 0#32
  let v90 : BitVec 1 := Scalar.cmpi .ne v89 c0_i32_64
  let v94 : BitVec 1 := Scalar.andi v93 v90
  let v95 : BitVec 32 := Scalar.addi v89 v88
  let v96 : BitVec 32 := Scalar.select v94 v95 v89
  let c1_i32_70 : BitVec 32 := 1#32
  let v98 : BitVec 32 := Scalar.muli v96 c1_i32_70
  let v99 : BitVec 32 := Scalar.addi c0_i32_71 v98
  v99.toNat
def k0_off3 (d0 : Dev nD) (c0_i32_74 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v106 : BitVec 32 := Scalar.addi v2 c0_i32_74
  let c4_i32_75 : BitVec 32 := 4#32
  let c0_i32_76 : BitVec 32 := 0#32
  let v107 : BitVec 1 := Scalar.cmpi .eq c4_i32_75 c0_i32_76
  let c1_i32_77 : BitVec 32 := 1#32
  let v108 : BitVec 32 := Scalar.select v107 c1_i32_77 c4_i32_75
  let v109 : BitVec 32 := Scalar.remsi v106 v108
  let c0_i32_79 : BitVec 32 := 0#32
  let v111 : BitVec 1 := Scalar.cmpi .slt v109 c0_i32_79
  let c0_i32_80 : BitVec 32 := 0#32
  let v112 : BitVec 1 := Scalar.cmpi .slt v108 c0_i32_80
  let v113 : BitVec 1 := Scalar.xori v111 v112
  let c0_i32_78 : BitVec 32 := 0#32
  let v110 : BitVec 1 := Scalar.cmpi .ne v109 c0_i32_78
  let v114 : BitVec 1 := Scalar.andi v113 v110
  let v115 : BitVec 32 := Scalar.addi v109 v108
  let v116 : BitVec 32 := Scalar.select v114 v115 v109
  let c1024_i32_81 : BitVec 32 := 1024#32
  let v117 : BitVec 32 := Scalar.muli v116 c1024_i32_81
  let c0_i32_86 : BitVec 32 := 0#32
  ![v117.toNat, 0]
def k0_off4 (d0 : Dev nD) (c0_i32_87 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v123 : BitVec 32 := Scalar.addi v2 c0_i32_87
  let c4_i32_88 : BitVec 32 := 4#32
  let c0_i32_89 : BitVec 32 := 0#32
  let v124 : BitVec 1 := Scalar.cmpi .eq c4_i32_88 c0_i32_89
  let c1_i32_90 : BitVec 32 := 1#32
  let v125 : BitVec 32 := Scalar.select v124 c1_i32_90 c4_i32_88
  let v126 : BitVec 32 := Scalar.remsi v123 v125
  let c0_i32_92 : BitVec 32 := 0#32
  let v128 : BitVec 1 := Scalar.cmpi .slt v126 c0_i32_92
  let c0_i32_93 : BitVec 32 := 0#32
  let v129 : BitVec 1 := Scalar.cmpi .slt v125 c0_i32_93
  let v130 : BitVec 1 := Scalar.xori v128 v129
  let c0_i32_91 : BitVec 32 := 0#32
  let v127 : BitVec 1 := Scalar.cmpi .ne v126 c0_i32_91
  let v131 : BitVec 1 := Scalar.andi v130 v127
  let v132 : BitVec 32 := Scalar.addi v126 v125
  let v133 : BitVec 32 := Scalar.select v131 v132 v126
  let c1024_i32_94 : BitVec 32 := 1024#32
  let v134 : BitVec 32 := Scalar.muli v133 c1024_i32_94
  let c1024_i32_99 : BitVec 32 := 1024#32
  ![v134.toNat, 1024]
def k0_off5 (d0 : Dev nD) (c0_i32_122 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v165 : BitVec 32 := Scalar.addi v2 c0_i32_122
  let c4_i32_123 : BitVec 32 := 4#32
  let c0_i32_124 : BitVec 32 := 0#32
  let v166 : BitVec 1 := Scalar.cmpi .eq c4_i32_123 c0_i32_124
  let c1_i32_125 : BitVec 32 := 1#32
  let v167 : BitVec 32 := Scalar.select v166 c1_i32_125 c4_i32_123
  let v168 : BitVec 32 := Scalar.remsi v165 v167
  let c0_i32_127 : BitVec 32 := 0#32
  let v170 : BitVec 1 := Scalar.cmpi .slt v168 c0_i32_127
  let c0_i32_128 : BitVec 32 := 0#32
  let v171 : BitVec 1 := Scalar.cmpi .slt v167 c0_i32_128
  let v172 : BitVec 1 := Scalar.xori v170 v171
  let c0_i32_126 : BitVec 32 := 0#32
  let v169 : BitVec 1 := Scalar.cmpi .ne v168 c0_i32_126
  let v173 : BitVec 1 := Scalar.andi v172 v169
  let v174 : BitVec 32 := Scalar.addi v168 v167
  let v175 : BitVec 32 := Scalar.select v173 v174 v168
  let c1024_i32_129 : BitVec 32 := 1024#32
  let v176 : BitVec 32 := Scalar.muli v175 c1024_i32_129
  let c2048_i32_134 : BitVec 32 := 2048#32
  ![v176.toNat, 2048]
def k0_off6 (d0 : Dev nD) (c0_i32_154 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v205 : BitVec 32 := Scalar.addi v2 c0_i32_154
  let c4_i32_155 : BitVec 32 := 4#32
  let c0_i32_156 : BitVec 32 := 0#32
  let v206 : BitVec 1 := Scalar.cmpi .eq c4_i32_155 c0_i32_156
  let c1_i32_157 : BitVec 32 := 1#32
  let v207 : BitVec 32 := Scalar.select v206 c1_i32_157 c4_i32_155
  let v208 : BitVec 32 := Scalar.remsi v205 v207
  let c0_i32_159 : BitVec 32 := 0#32
  let v210 : BitVec 1 := Scalar.cmpi .slt v208 c0_i32_159
  let c0_i32_160 : BitVec 32 := 0#32
  let v211 : BitVec 1 := Scalar.cmpi .slt v207 c0_i32_160
  let v212 : BitVec 1 := Scalar.xori v210 v211
  let c0_i32_158 : BitVec 32 := 0#32
  let v209 : BitVec 1 := Scalar.cmpi .ne v208 c0_i32_158
  let v213 : BitVec 1 := Scalar.andi v212 v209
  let v214 : BitVec 32 := Scalar.addi v208 v207
  let v215 : BitVec 32 := Scalar.select v213 v214 v208
  let c1024_i32_161 : BitVec 32 := 1024#32
  let v216 : BitVec 32 := Scalar.muli v215 c1024_i32_161
  let c3072_i32_166 : BitVec 32 := 3072#32
  ![v216.toNat, 3072]
def k0_off7 (d0 : Dev nD) (c0_i32_187 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v245 : BitVec 32 := Scalar.addi v2 c0_i32_187
  let c4_i32_188 : BitVec 32 := 4#32
  let c0_i32_189 : BitVec 32 := 0#32
  let v246 : BitVec 1 := Scalar.cmpi .eq c4_i32_188 c0_i32_189
  let c1_i32_190 : BitVec 32 := 1#32
  let v247 : BitVec 32 := Scalar.select v246 c1_i32_190 c4_i32_188
  let v248 : BitVec 32 := Scalar.remsi v245 v247
  let c0_i32_192 : BitVec 32 := 0#32
  let v250 : BitVec 1 := Scalar.cmpi .slt v248 c0_i32_192
  let c0_i32_193 : BitVec 32 := 0#32
  let v251 : BitVec 1 := Scalar.cmpi .slt v247 c0_i32_193
  let v252 : BitVec 1 := Scalar.xori v250 v251
  let c0_i32_191 : BitVec 32 := 0#32
  let v249 : BitVec 1 := Scalar.cmpi .ne v248 c0_i32_191
  let v253 : BitVec 1 := Scalar.andi v252 v249
  let v254 : BitVec 32 := Scalar.addi v248 v247
  let v255 : BitVec 32 := Scalar.select v253 v254 v248
  let c1024_i32_194 : BitVec 32 := 1024#32
  let v256 : BitVec 32 := Scalar.muli v255 c1024_i32_194
  let c4096_i32 : BitVec 32 := 4096#32
  ![v256.toNat, 4096]
def k0_off8 (d0 : Dev nD) (c0_i32_219 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v285 : BitVec 32 := Scalar.addi v2 c0_i32_219
  let c4_i32_220 : BitVec 32 := 4#32
  let c0_i32_221 : BitVec 32 := 0#32
  let v286 : BitVec 1 := Scalar.cmpi .eq c4_i32_220 c0_i32_221
  let c1_i32_222 : BitVec 32 := 1#32
  let v287 : BitVec 32 := Scalar.select v286 c1_i32_222 c4_i32_220
  let v288 : BitVec 32 := Scalar.remsi v285 v287
  let c0_i32_224 : BitVec 32 := 0#32
  let v290 : BitVec 1 := Scalar.cmpi .slt v288 c0_i32_224
  let c0_i32_225 : BitVec 32 := 0#32
  let v291 : BitVec 1 := Scalar.cmpi .slt v287 c0_i32_225
  let v292 : BitVec 1 := Scalar.xori v290 v291
  let c0_i32_223 : BitVec 32 := 0#32
  let v289 : BitVec 1 := Scalar.cmpi .ne v288 c0_i32_223
  let v293 : BitVec 1 := Scalar.andi v292 v289
  let v294 : BitVec 32 := Scalar.addi v288 v287
  let v295 : BitVec 32 := Scalar.select v293 v294 v288
  let c1024_i32_226 : BitVec 32 := 1024#32
  let v296 : BitVec 32 := Scalar.muli v295 c1024_i32_226
  let c5120_i32 : BitVec 32 := 5120#32
  ![v296.toNat, 5120]
def k0_off9 (d0 : Dev nD) (c0_i32_251 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v325 : BitVec 32 := Scalar.addi v2 c0_i32_251
  let c4_i32_252 : BitVec 32 := 4#32
  let c0_i32_253 : BitVec 32 := 0#32
  let v326 : BitVec 1 := Scalar.cmpi .eq c4_i32_252 c0_i32_253
  let c1_i32_254 : BitVec 32 := 1#32
  let v327 : BitVec 32 := Scalar.select v326 c1_i32_254 c4_i32_252
  let v328 : BitVec 32 := Scalar.remsi v325 v327
  let c0_i32_256 : BitVec 32 := 0#32
  let v330 : BitVec 1 := Scalar.cmpi .slt v328 c0_i32_256
  let c0_i32_257 : BitVec 32 := 0#32
  let v331 : BitVec 1 := Scalar.cmpi .slt v327 c0_i32_257
  let v332 : BitVec 1 := Scalar.xori v330 v331
  let c0_i32_255 : BitVec 32 := 0#32
  let v329 : BitVec 1 := Scalar.cmpi .ne v328 c0_i32_255
  let v333 : BitVec 1 := Scalar.andi v332 v329
  let v334 : BitVec 32 := Scalar.addi v328 v327
  let v335 : BitVec 32 := Scalar.select v333 v334 v328
  let c1024_i32_258 : BitVec 32 := 1024#32
  let v336 : BitVec 32 := Scalar.muli v335 c1024_i32_258
  let c6144_i32 : BitVec 32 := 6144#32
  ![v336.toNat, 6144]
def k0_off10 (d0 : Dev nD) (c0_i32_283 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v365 : BitVec 32 := Scalar.addi v2 c0_i32_283
  let c4_i32_284 : BitVec 32 := 4#32
  let c0_i32_285 : BitVec 32 := 0#32
  let v366 : BitVec 1 := Scalar.cmpi .eq c4_i32_284 c0_i32_285
  let c1_i32_286 : BitVec 32 := 1#32
  let v367 : BitVec 32 := Scalar.select v366 c1_i32_286 c4_i32_284
  let v368 : BitVec 32 := Scalar.remsi v365 v367
  let c0_i32_288 : BitVec 32 := 0#32
  let v370 : BitVec 1 := Scalar.cmpi .slt v368 c0_i32_288
  let c0_i32_289 : BitVec 32 := 0#32
  let v371 : BitVec 1 := Scalar.cmpi .slt v367 c0_i32_289
  let v372 : BitVec 1 := Scalar.xori v370 v371
  let c0_i32_287 : BitVec 32 := 0#32
  let v369 : BitVec 1 := Scalar.cmpi .ne v368 c0_i32_287
  let v373 : BitVec 1 := Scalar.andi v372 v369
  let v374 : BitVec 32 := Scalar.addi v368 v367
  let v375 : BitVec 32 := Scalar.select v373 v374 v368
  let c1024_i32_290 : BitVec 32 := 1024#32
  let v376 : BitVec 32 := Scalar.muli v375 c1024_i32_290
  let c7168_i32 : BitVec 32 := 7168#32
  ![v376.toNat, 7168]
def k0_dev7 (d0 : Dev nD) : Nat :=
  let c0_i32_1285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1275 : BitVec 32 := 1#32
  let v1577 : BitVec 32 := Scalar.addi v2 c1_i32_1275
  let c4_i32_1276 : BitVec 32 := 4#32
  let c0_i32_1277 : BitVec 32 := 0#32
  let v1578 : BitVec 1 := Scalar.cmpi .eq c4_i32_1276 c0_i32_1277
  let c1_i32_1278 : BitVec 32 := 1#32
  let v1579 : BitVec 32 := Scalar.select v1578 c1_i32_1278 c4_i32_1276
  let v1580 : BitVec 32 := Scalar.remsi v1577 v1579
  let c0_i32_1280 : BitVec 32 := 0#32
  let v1582 : BitVec 1 := Scalar.cmpi .slt v1580 c0_i32_1280
  let c0_i32_1281 : BitVec 32 := 0#32
  let v1583 : BitVec 1 := Scalar.cmpi .slt v1579 c0_i32_1281
  let v1584 : BitVec 1 := Scalar.xori v1582 v1583
  let c0_i32_1279 : BitVec 32 := 0#32
  let v1581 : BitVec 1 := Scalar.cmpi .ne v1580 c0_i32_1279
  let v1585 : BitVec 1 := Scalar.andi v1584 v1581
  let v1586 : BitVec 32 := Scalar.addi v1580 v1579
  let v1587 : BitVec 32 := Scalar.select v1585 v1586 v1580
  let c1_i32_1284 : BitVec 32 := 1#32
  let v1588 : BitVec 32 := Scalar.muli v1587 c1_i32_1284
  let v1589 : BitVec 32 := Scalar.addi c0_i32_1285 v1588
  v1589.toNat
def k0_dev8 (d0 : Dev nD) : Nat :=
  let c0_i32_1299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1289 : BitVec 32 := 2#32
  let v1596 : BitVec 32 := Scalar.addi v2 c2_i32_1289
  let c4_i32_1290 : BitVec 32 := 4#32
  let c0_i32_1291 : BitVec 32 := 0#32
  let v1597 : BitVec 1 := Scalar.cmpi .eq c4_i32_1290 c0_i32_1291
  let c1_i32_1292 : BitVec 32 := 1#32
  let v1598 : BitVec 32 := Scalar.select v1597 c1_i32_1292 c4_i32_1290
  let v1599 : BitVec 32 := Scalar.remsi v1596 v1598
  let c0_i32_1294 : BitVec 32 := 0#32
  let v1601 : BitVec 1 := Scalar.cmpi .slt v1599 c0_i32_1294
  let c0_i32_1295 : BitVec 32 := 0#32
  let v1602 : BitVec 1 := Scalar.cmpi .slt v1598 c0_i32_1295
  let v1603 : BitVec 1 := Scalar.xori v1601 v1602
  let c0_i32_1293 : BitVec 32 := 0#32
  let v1600 : BitVec 1 := Scalar.cmpi .ne v1599 c0_i32_1293
  let v1604 : BitVec 1 := Scalar.andi v1603 v1600
  let v1605 : BitVec 32 := Scalar.addi v1599 v1598
  let v1606 : BitVec 32 := Scalar.select v1604 v1605 v1599
  let c1_i32_1298 : BitVec 32 := 1#32
  let v1607 : BitVec 32 := Scalar.muli v1606 c1_i32_1298
  let v1608 : BitVec 32 := Scalar.addi c0_i32_1299 v1607
  v1608.toNat
def k0_dev9 (d0 : Dev nD) : Nat :=
  let c0_i32_1313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1303 : BitVec 32 := 3#32
  let v1615 : BitVec 32 := Scalar.addi v2 c3_i32_1303
  let c4_i32_1304 : BitVec 32 := 4#32
  let c0_i32_1305 : BitVec 32 := 0#32
  let v1616 : BitVec 1 := Scalar.cmpi .eq c4_i32_1304 c0_i32_1305
  let c1_i32_1306 : BitVec 32 := 1#32
  let v1617 : BitVec 32 := Scalar.select v1616 c1_i32_1306 c4_i32_1304
  let v1618 : BitVec 32 := Scalar.remsi v1615 v1617
  let c0_i32_1308 : BitVec 32 := 0#32
  let v1620 : BitVec 1 := Scalar.cmpi .slt v1618 c0_i32_1308
  let c0_i32_1309 : BitVec 32 := 0#32
  let v1621 : BitVec 1 := Scalar.cmpi .slt v1617 c0_i32_1309
  let v1622 : BitVec 1 := Scalar.xori v1620 v1621
  let c0_i32_1307 : BitVec 32 := 0#32
  let v1619 : BitVec 1 := Scalar.cmpi .ne v1618 c0_i32_1307
  let v1623 : BitVec 1 := Scalar.andi v1622 v1619
  let v1624 : BitVec 32 := Scalar.addi v1618 v1617
  let v1625 : BitVec 32 := Scalar.select v1623 v1624 v1618
  let c1_i32_1312 : BitVec 32 := 1#32
  let v1626 : BitVec 32 := Scalar.muli v1625 c1_i32_1312
  let v1627 : BitVec 32 := Scalar.addi c0_i32_1313 v1626
  v1627.toNat
abbrev stage0_0 : Fin 1 → Memref sig .tc .vmem S1024x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .f32⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_cst_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Proof.Program.lean ====
/- The device program of the kernel in indexed form: the row blocks, slots and tiles it touches as
   views indexed by slot, tile and buffer, the pieces it repeats as definitions over those indices,
   and the theorem that the printed body is their sequence. -/
module

public import proofs.«01_k».proof.Proof.Gen.KernelIdeal.Skeleton
public import proofs.«01_k».proof.Proof.Gen.KernelIdeal.Points

@[expose] public section

noncomputable section

namespace Cert.KernelIdeal.Run

open Idealize.ShloMosaic Idealize.ShloMosaic.TcCoe Idealize.SL.Sem Cert.KernelIdeal Cert.KernelIdeal.Gen

variable {F : FTy → Type} [FloatOps F]

/-! ## Buffers and their parts -/

/-- A device's columns of `x`: four row blocks of 1024 rows. -/
abbrev xArg : Memref sig .tc .hbm S4096x1024 .bf16 := Memref.whole main_arg0
/-- The weights. -/
abbrev wArg : Memref sig .tc .hbm S4096x8192 .f32 := Memref.whole main_arg1
/-- The staging buffer of the result: eight column tiles. -/
abbrev outB : Memref sig .tc .vmem S1024x8192 .f32 := Memref.whole cc0_stg0_0
/-- The gathered row blocks: four slots. -/
abbrev commB : Memref sig .tc .vmem S4096x1024 .bf16 := Memref.whole cc0_scratch0
/-- The double buffer of weight tiles. -/
abbrev wB : Memref sig .tc .vmem S2x1024x1024 .f32 := Memref.whole cc0_scratch1
/-- The gathered local maxima: four blocks of eight rows. -/
abbrev amaxB : Memref sig .tc .vmem S32x128 .f32 := Memref.whole cc0_scratch2

/-- The row blocks lie in their array. -/
theorem inb_c : ∀ (q : Fin 4) a, (![1024 * q.val, 0] : Fin 2 → Nat) a + S1024x1024.size a ≤ S4096x1024.size a := by decide
/-- The column tiles lie in the result. -/
theorem inb_o : ∀ (j : Fin 8) a, (![0, 1024 * j.val] : Fin 2 → Nat) a + S1024x1024.size a ≤ S1024x8192.size a := by decide
/-- The two weight buffers lie in the double buffer. -/
theorem inb_b : ∀ (s : Fin 2) a, (![s.val, 0, 0] : Fin 3 → Nat) a + S1x1024x1024.size a ≤ S2x1024x1024.size a := by decide
/-- The blocks of maxima lie in their array. -/
theorem inb_a : ∀ (r : Fin 4) a, (![8 * r.val, 0] : Fin 2 → Nat) a + S8x128.size a ≤ S32x128.size a := by decide
/-- Four semaphores, -/
theorem inb_s4 : ∀ (r : Fin 4) a, (![r.val] : Fin 1 → Nat) a + S1.size a ≤ S4.size a := by decide
/-- and two. -/
theorem inb_s2 : ∀ (r : Fin 2) a, (![r.val] : Fin 1 → Nat) a + S1.size a ≤ S2.size a := by decide
/-- Slot `q` of the gathered row blocks. -/
def crect (q : Fin 4) : Rect S4096x1024 := Rect.unit ![1024 * q.val, 0] S1024x1024.size (inb_c q)
/-- Column tile `j` of the result. -/
def orect (j : Fin 8) : Rect S1024x8192 := Rect.unit ![0, 1024 * j.val] S1024x1024.size (inb_o j)
/-- Buffer `s` of the weight tiles. -/
def brect (s : Fin 2) : Rect S2x1024x1024 := Rect.unit ![s.val, 0, 0] S1x1024x1024.size (inb_b s)
/-- Row block `r` of the gathered maxima. -/
def arect (r : Fin 4) : Rect S32x128 := Rect.unit ![8 * r.val, 0] S8x128.size (inb_a r)

/-- A row block is made of whole words. -/
theorem words_c : ∀ q : Fin 4, (crect q).WholeWords (EltTy.packing .bf16) := by
  intro q
  fin_cases q
  exacts [wordsbf16_S4096x1024_S1024x1024_0_0, wordsbf16_S4096x1024_S1024x1024_1024_0,
    wordsbf16_S4096x1024_S1024x1024_2048_0, wordsbf16_S4096x1024_S1024x1024_3072_0]

/-- Slot `q` of the gathered row blocks, as a view. -/
def cslot (q : Fin 4) : Memref sig .tc .vmem S1024x1024 .bf16 := commB.slice (crect q) (fun _ => rfl)
/-- Row block `q` of a device's columns of `x`. -/
def xrow (q : Fin 4) : Memref sig .tc .hbm S1024x1024 .bf16 := xArg.slice (crect q) (fun _ => rfl)
/-- The row block of `x` that stays on device `c`. -/
def xown (c : Dev nD) : Memref sig .tc .hbm S1024x1024 .bf16 :=
  xArg.slice (Rect.unit (s := S4096x1024) (k0_off1 c) S1024x1024.size (k0_off1_inb c)) (fun _ => rfl)
/-- The row block of `x` that device `c` sends to the device `i + 1` further. -/
def xsend (c : Dev nD) (i : Fin 3) : Memref sig .tc .hbm S1024x1024 .bf16 :=
  xArg.slice (Rect.unit (s := S4096x1024) (k0_off2 c (BitVec.ofNat 32 (1 + i.val))) S1024x1024.size (k0_off2_inb c i)) (fun _ => rfl)
/-- Buffer `s` of the weight tiles, as a matrix. -/
def bslot (s : Fin 2) : Memref sig .tc .vmem S1024x1024 .f32 :=
  (wB.slice (brect s) (fun _ => rfl)).squeeze S1024x1024 squeezes_S1x1024x1024_S1024x1024
/-- Row block `r` of the gathered maxima. -/
def ablk (r : Fin 4) : Memref sig .tc .vmem S8x128 .f32 := amaxB.slice (arect r) (fun _ => rfl)

/-- Where the weight tile of slot `q` and column tile `j` starts, on device `c`. -/
def woff (c : Dev nD) (q : Fin 4) (j : Fin 8) : Fin 2 → Nat :=
  match j with
  | 0 => k0_off3 c (BitVec.ofNat 32 q.val)
  | 1 => k0_off4 c (BitVec.ofNat 32 q.val)
  | 2 => k0_off5 c (BitVec.ofNat 32 q.val)
  | 3 => k0_off6 c (BitVec.ofNat 32 q.val)
  | 4 => k0_off7 c (BitVec.ofNat 32 q.val)
  | 5 => k0_off8 c (BitVec.ofNat 32 q.val)
  | 6 => k0_off9 c (BitVec.ofNat 32 q.val)
  | 7 => k0_off10 c (BitVec.ofNat 32 q.val)

/-- The weight tiles lie in the weights. -/
theorem woff_inb (c : Dev nD) (q : Fin 4) (j : Fin 8) :
    ∀ a, woff c q j a + S1024x1024.size a ≤ S4096x8192.size a := by
  fin_cases j
  exacts [k0_off3_inb c q, k0_off4_inb c q, k0_off5_inb c q, k0_off6_inb c q, k0_off7_inb c q,
    k0_off8_inb c q, k0_off9_inb c q, k0_off10_inb c q]

/-- The weight tile of slot `q` and column tile `j`, on device `c`. -/
def wblk (c : Dev nD) (q : Fin 4) (j : Fin 8) : Memref sig .tc .hbm S1024x1024 .f32 :=
  wArg.slice (Rect.unit (s := S4096x8192) (woff c q j) S1024x1024.size (woff_inb c q j)) (fun _ => rfl)

/-- Entry `r` of an array of four semaphores. -/
def sem4 (a : DmaSems sig S4) (r : Fin 4) : DmaSem sig :=
  ((a.slice (Rect.unit (s := S4) ![r.val] S1.size (inb_s4 r))).squeeze S_ squeezes_S1_S_).sem
/-- The semaphore of weight buffer `s`. -/
def wsem (s : Fin 2) : DmaSem sig :=
  ((cc0_scratch4.slice (Rect.unit (s := S2) ![s.val] S1.size (inb_s2 s))).squeeze S_ squeezes_S1_S_).sem

/-- The slot that offset `i + 1` fills: `3 - i`. -/
abbrev slot (i : Fin 3) : Fin 4 := i.rev.succ

/-- The device that the barrier signal of offset `i + 1` goes to. -/
def bdev (c : Dev nD) (i : Fin 3) : Dev nD :=
  match i with | 0 => ⟨k0_dev1 c, k0_dev1_lt c⟩ | 1 => ⟨k0_dev2 c, k0_dev2_lt c⟩ | 2 => ⟨k0_dev3 c, k0_dev3_lt c⟩
/-- The device that the row block of offset `i + 1` goes to. -/
def sdev (c : Dev nD) (i : Fin 3) : Dev nD :=
  match i with | 0 => ⟨k0_dev4 c, k0_dev4_lt c⟩ | 1 => ⟨k0_dev6 c, k0_dev6_lt c⟩ | 2 => ⟨k0_dev5 c, k0_dev5_lt c⟩
/-- The device that the local maximum of offset `i + 1` goes to. -/
def adev (c : Dev nD) (i : Fin 3) : Dev nD :=
  match i with | 0 => ⟨k0_dev7 c, k0_dev7_lt c⟩ | 1 => ⟨k0_dev8 c, k0_dev8_lt c⟩ | 2 => ⟨k0_dev9 c, k0_dev9_lt c⟩

/-! ## Pieces of the program -/

/-- A program of one device. -/
abbrev DProg (F : FTy → Type) [FloatOps F] (α : Type) := Prog (TpuEff nD τ sig (Elt F) Λ₀ .tc) α

/-- Start the copy of a weight tile into a buffer. -/
def startW (c : Dev nD) (q : Fin 4) (j : Fin 8) (s : Fin 2) : DProg F PUnit :=
  Prog.lift (.enqueueDma (wblk c q j) (.here (bslot s)) (.dma (wsem s)) (View.wordExact_bits rfl) ((View.wordExact_bits rfl).reshape _ _) ⟨Or.inl rfl, trivial⟩)

/-- Wait for that copy. -/
def waitW (c : Dev nD) (q : Fin 4) (j : Fin 8) (s : Fin 2) : DProg F PUnit :=
  Prog.lift (.waitDma2 (wsem s) (wblk c q j) (bslot s) (View.wordExact_bits rfl) ((View.wordExact_bits rfl).reshape _ _))

/-- Read slot `q` of the gathered row blocks. -/
def loadC (q : Fin 4) : DProg F (Vec F S1024x1024 .bf16) :=
  Prog.lift (.load commB (crect q).toLoadRect (View.loadsAt_vmem h_S1024x1024))
/-- Read weight buffer `s`. -/
def loadB (s : Fin 2) : DProg F (Vec F S1x1024x1024 .f32) :=
  Prog.lift (.load wB (brect s).toLoadRect (View.loadsAt_vmem h_S1x1024x1024))
/-- Read column tile `j` of the result. -/
def loadO (j : Fin 8) : DProg F (Vec F S1024x1024 .f32) :=
  Prog.lift (.load outB (orect j).toLoadRect (View.loadsAt_vmem h_S1024x1024))
/-- Write column tile `j` of the result. -/
def storeO (j : Fin 8) (v : Vec F S1024x1024 .f32) : DProg F PUnit :=
  Prog.lift (.store outB (orect j) v Finset.univ (View.stores_vmem_bits_univ h_S1024x1024 rfl) (.inl rfl))

/-- One tile of the first product: the tile is written. -/
def stepFirst (c : Dev nD) (q : Fin 4) (j : Fin 8) (s : Fin 2) : DProg F PUnit := do
  waitW c q j s
  let a ← loadC q
  let b ← loadB s
  let _ ← loadO j
  storeO j (k0_pay1 a b)

/-- One tile of a later product: it is added to the tile, and the new tile is returned. -/
def stepAdd (c : Dev nD) (q : Fin 4) (j : Fin 8) (s : Fin 2) : DProg F (Vec F S1024x1024 .f32) := do
  waitW c q j s
  let a ← loadC q
  let b ← loadB s
  let o ← loadO j
  let _ ← loadO j
  storeO j (k0_pay9 a b o)
  pure (k0_pay9 a b o)

/-- The largest magnitude in a tile. -/
def tileMax (v : Vec F S1024x1024 .f32) : F .f32 :=
  extractAt ![0, 0, 0] (shapeCast S1x1x1 (multiReduction .maximumf [1, 2] S1
    (shapeCast S1x1024x1024 (absf v : FVec F S1024x1024 .f32) shapeCasts_S1024x1024_S1x1024x1024 : FVec F S1x1024x1024 .f32)
    0xFF800000#32 reduces_S1x1024x1024_S1 (.inl rfl) rfl : FVec F S1 .f32) shapeCasts_S1_S1x1x1 : FVec F S1x1x1 .f32) inpos_S1x1x1_p0_0_0

/-- The tile rounded to the grid of the maximum that the gathered blocks hold. -/
def quant (g : Vec F S32x128 .f32) (v : Vec F S1024x1024 .f32) : FVec F S1024x1024 .f32 := k0_pay53 g v

/-- Start the local copy of the own row block into slot 0. -/
def startX (c : Dev nD) : DProg F PUnit :=
  Prog.lift (.enqueueDma (xown c) (.here (cslot 0)) (.dma cc0_scratch3.sem) ((Memref.isWhole_whole main_arg0).wordExact_slice rfl _ (k0_off1_wordsbf16 c)) ((Memref.isWhole_whole cc0_scratch0).wordExact_slice rfl _ (words_c 0)) ⟨Or.inl rfl, trivial⟩)
/-- Wait for it. -/
def waitX (c : Dev nD) : DProg F PUnit :=
  Prog.lift (.waitDma2 cc0_scratch3.sem (xown c) (cslot 0) ((Memref.isWhole_whole main_arg0).wordExact_slice rfl _ (k0_off1_wordsbf16 c)) ((Memref.isWhole_whole cc0_scratch0).wordExact_slice rfl _ (words_c 0)))
/-- Send a row block. -/
def sendX (c : Dev nD) (i : Fin 3) : DProg F PUnit :=
  Prog.lift (.enqueueDma (xsend c i) (.remote (Dev.tc (sdev c i)) (cslot (slot i)) (.dma (sem4 cc0_scratch5 i.succ))) (.dma (sem4 cc0_scratch6 (slot i))) ((Memref.isWhole_whole main_arg0).wordExact_slice rfl _ (k0_off2_wordsbf16 c i)) ((Memref.isWhole_whole cc0_scratch0).wordExact_slice rfl _ (words_c (slot i))) ⟨⟨rfl, Or.inl rfl⟩, trivial⟩)
/-- Wait for the row block of slot `i + 1`. -/
def recvX (i : Fin 3) : DProg F PUnit :=
  Prog.lift (.waitDma2 (sem4 cc0_scratch6 i.succ) (xrow 0) (cslot i.succ) ((Memref.isWhole_whole main_arg0).wordExact_slice rfl _ (words_c 0)) ((Memref.isWhole_whole cc0_scratch0).wordExact_slice rfl _ (words_c i.succ)))
/-- Wait until a row block has been sent. -/
def sentX (c : Dev nD) (i : Fin 3) : DProg F PUnit :=
  Prog.lift (.waitDma2 (sem4 cc0_scratch5 i.succ) (cslot (slot i)) (xsend c i) ((Memref.isWhole_whole cc0_scratch0).wordExact_slice rfl _ (words_c (slot i))) ((Memref.isWhole_whole main_arg0).wordExact_slice rfl _ (k0_off2_wordsbf16 c i)))
/-- Send the local maximum. -/
def sendA (c : Dev nD) (i : Fin 3) : DProg F PUnit :=
  Prog.lift (.enqueueDma (ablk 0) (.remote (Dev.tc (adev c i)) (ablk (slot i)) (.dma (sem4 cc0_scratch7 i.succ))) (.dma (sem4 cc0_scratch8 (slot i))) (View.wordExact_bits rfl) (View.wordExact_bits rfl) ⟨⟨rfl, Or.inl rfl⟩, trivial⟩)
/-- Wait for the maximum of slot `i + 1`. -/
def recvA (i : Fin 3) : DProg F PUnit :=
  Prog.lift (.waitDma2 (sem4 cc0_scratch8 i.succ) (ablk 0) (ablk i.succ) (View.wordExact_bits rfl) (View.wordExact_bits rfl))
/-- Wait until the local maximum has been sent. -/
def sentA (i : Fin 3) : DProg F PUnit :=
  Prog.lift (.waitDma2 (sem4 cc0_scratch7 i.succ) (ablk (slot i)) (ablk 0) (View.wordExact_bits rfl) (View.wordExact_bits rfl))

/-- One tile of the last phase: read, rounded, written. -/
def stepQ (g : Vec F S32x128 .f32) (j : Fin 8) : DProg F PUnit := do
  let v ← loadO j
  let _ ← loadO j
  storeO j (quant g v)

/-- The signals of the entry barrier and its wait. -/
def barrier (c : Dev nD) : DProg F PUnit := do
  semSignalWord (bdev c 0) (SemArray.scalar (sig.barrier 0 rfl) : Sems sig S_).sem 1#32
  semSignalWord (bdev c 1) (SemArray.scalar (sig.barrier 0 rfl) : Sems sig S_).sem 1#32
  semSignalWord (bdev c 2) (SemArray.scalar (sig.barrier 0 rfl) : Sems sig S_).sem 1#32
  semWaitWord (SemArray.scalar (sig.barrier 0 rfl) : Sems sig S_).sem 3#32

/-- The eight tiles of the first product; the first two tiles of slot 1 are under way at the end. -/
def groupFirst (c : Dev nD) : DProg F PUnit := do
  stepFirst c 0 0 0; startW c 0 2 0
  stepFirst c 0 1 1; startW c 0 3 1
  stepFirst c 0 2 0; startW c 0 4 0
  stepFirst c 0 3 1; startW c 0 5 1
  stepFirst c 0 4 0; startW c 0 6 0
  stepFirst c 0 5 1; startW c 0 7 1
  stepFirst c 0 6 0; startW c 1 0 0
  stepFirst c 0 7 1; startW c 1 1 1

/-- The eight tiles of the product of slot `q`; the first two tiles of slot `q'` are under way at the
    end. -/
def groupMid (c : Dev nD) (q q' : Fin 4) : DProg F PUnit := do
  let _ ← stepAdd c q 0 0; startW c q 2 0
  let _ ← stepAdd c q 1 1; startW c q 3 1
  let _ ← stepAdd c q 2 0; startW c q 4 0
  let _ ← stepAdd c q 3 1; startW c q 5 1
  let _ ← stepAdd c q 4 0; startW c q 6 0
  let _ ← stepAdd c q 5 1; startW c q 7 1
  let _ ← stepAdd c q 6 0; startW c q' 0 0
  let _ ← stepAdd c q 7 1; startW c q' 1 1

/-- The eight tiles of the last product; the block that holds the local maximum is returned. -/
def groupLast (c : Dev nD) : DProg F (FVec F S8x128 .f32) := do
  let m0 ← stepAdd c 2 0 0; startW c 2 2 0
  let m1 ← stepAdd c 2 1 1; startW c 2 3 1
  let m2 ← stepAdd c 2 2 0; startW c 2 4 0
  let m3 ← stepAdd c 2 3 1; startW c 2 5 1
  let m4 ← stepAdd c 2 4 0; startW c 2 6 0
  let m5 ← stepAdd c 2 5 1; startW c 2 7 1
  let m6 ← stepAdd c 2 6 0
  let m7 ← stepAdd c 2 7 1
  pure (k0_pay49 (tileMax m0) (tileMax m1) (tileMax m2) (tileMax m3) (tileMax m4) (tileMax m5) (tileMax m6) (tileMax m7))

/-- The exchange of the local maxima: the gathered block is returned. -/
def exchange (c : Dev nD) (v : FVec F S8x128 .f32) : DProg F (Vec F S32x128 .f32) := do
  let _ ← (Prog.lift (.load amaxB (arect 0).toLoadRect (View.loadsAt_vmem h_S8x128)) : DProg F (Vec F S8x128 .f32))
  Prog.lift (.store amaxB (arect 0) v Finset.univ (View.stores_vmem_bits_univ h_S8x128 rfl) (.inl rfl))
  sendA c 0; sendA c 1; sendA c 2
  recvA 2; recvA 1; recvA 0
  Prog.lift (.load amaxB (Rect.unit (s := S32x128) ![0, 0] S32x128.size inb_S32x128_S32x128_0_0).toLoadRect (View.loadsAt_vmem h_S32x128))

/-- The program of device `c`. -/
def progAt (c : Dev nD) : DProg F PUnit := do
  barrier c
  startX c
  sendX c 0; sendX c 2; sendX c 1
  startW c 0 0 0; startW c 0 1 1
  waitX c
  groupFirst c
  recvX 0
  groupMid c 1 3
  recvX 2
  groupMid c 3 2
  recvX 1
  let v ← groupLast c
  sentX c 0; sentX c 2; sentX c 1
  let g ← exchange c v
  stepQ g 0; stepQ g 1; stepQ g 2; stepQ g 3; stepQ g 4; stepQ g 5; stepQ g 6; stepQ g 7
  sentA 0; sentA 1; sentA 2

/-- The program of a device, which first reads its own index. -/
def prog : DProg F PUnit := do
  let c : Dev nD ← Prog.lift .deviceId
  progAt c

set_option maxRecDepth 100000 in
set_option maxHeartbeats 4000000 in
/-- The printed body, on the buffers of the launch, is that program. -/
theorem bodyAt_eq (t : Fin cfg0.N) : bodyAt0 (F := F) t = prog := by
  rw [show bodyAt0 (F := F) t = _ from congrFun (congrFun (congrFun (congrFun (congrFun (congrFun
    (congrFun (congrFun (congrFun (congrFun (congrFun (congrFun (congrFun (congrFun (congrFun
    (congrFun (congrFun (congrFun cc0_body_eq_skeleton _) _) _) _) _) _) _) _) _) _) _) _) _) _) _)
    _) _) _]
  simp only [cc0_body_skel, k0_part58_eq_skeleton, k0_part58_skel, k0_part57_eq_skeleton,
    k0_part57_skel, k0_part56_eq_skeleton, k0_part56_skel, k0_part55_eq_skeleton, k0_part55_skel,
    k0_part54_eq_skeleton, k0_part54_skel, k0_part53_eq_skeleton, k0_part53_skel,
    k0_part52_eq_skeleton, k0_part52_skel, k0_part51_eq_skeleton, k0_part51_skel,
    k0_part50_eq_skeleton, k0_part50_skel, k0_part49_eq_skeleton, k0_part49_skel,
    k0_part48_eq_skeleton, k0_part48_skel, k0_part47_eq_skeleton, k0_part47_skel,
    k0_part46_eq_skeleton, k0_part46_skel, k0_part45_eq_skeleton, k0_part45_skel,
    k0_part44_eq_skeleton, k0_part44_skel, k0_part43_eq_skeleton, k0_part43_skel,
    k0_part42_eq_skeleton, k0_part42_skel, k0_part41_eq_skeleton, k0_part41_skel,
    k0_part40_eq_skeleton, k0_part40_skel, k0_part39_eq_skeleton, k0_part39_skel,
    k0_part38_eq_skeleton, k0_part38_skel, k0_part37_eq_skeleton, k0_part37_skel,
    k0_part36_eq_skeleton, k0_part36_skel, k0_part35_eq_skeleton, k0_part35_skel,
    k0_part34_eq_skeleton, k0_part34_skel, k0_part33_eq_skeleton, k0_part33_skel,
    k0_part32_eq_skeleton, k0_part32_skel, k0_part31_eq_skeleton, k0_part31_skel,
    k0_part30_eq_skeleton, k0_part30_skel, k0_part29_eq_skeleton, k0_part29_skel,
    k0_part28_eq_skeleton, k0_part28_skel, k0_part27_eq_skeleton, k0_part27_skel,
    k0_part26_eq_skeleton, k0_part26_skel, k0_part25_eq_skeleton, k0_part25_skel,
    k0_part24_eq_skeleton, k0_part24_skel, k0_part23_eq_skeleton, k0_part23_skel,
    k0_part22_eq_skeleton, k0_part22_skel, k0_part21_eq_skeleton, k0_part21_skel,
    k0_part20_eq_skeleton, k0_part20_skel, k0_part19_eq_skeleton, k0_part19_skel,
    k0_part18_eq_skeleton, k0_part18_skel, k0_part17_eq_skeleton, k0_part17_skel,
    k0_part16_eq_skeleton, k0_part16_skel, k0_part15_eq_skeleton, k0_part15_skel,
    k0_part14_eq_skeleton, k0_part14_skel, k0_part13_eq_skeleton, k0_part13_skel,
    k0_part12_eq_skeleton, k0_part12_skel, k0_part11_eq_skeleton, k0_part11_skel,
    k0_part10_eq_skeleton, k0_part10_skel, k0_part9_eq_skeleton, k0_part9_skel,
    k0_part8_eq_skeleton, k0_part8_skel, k0_part7_eq_skeleton, k0_part7_skel, k0_part6_eq_skeleton,
    k0_part6_skel, k0_part5_eq_skeleton, k0_part5_skel, k0_part4_eq_skeleton, k0_part4_skel,
    k0_part3_eq_skeleton, k0_part3_skel, k0_part2_eq_skeleton, k0_part2_skel, k0_part1_eq_skeleton,
    k0_part1_skel, bind_assoc, pure_bind]
  simp only [prog, progAt, barrier, groupFirst, groupMid, groupLast, exchange, stepQ, stepAdd,
    stepFirst, bind_assoc, pure_bind]
  rfl

end Cert.KernelIdeal.Run
-- ==== Proof.Contents.lean ====
/- What the buffers hold in a run, as functions of the memory at launch: the row blocks that travel, the
   weight tiles, the four partial products of a column tile, the local maxima, and the result. -/
module

public import proofs.«01_k».proof.Proof.Program
public import Idealize.ShloMosaic.Lib.ValueIdxCore

@[expose] public section

noncomputable section

namespace Cert.KernelIdeal.Run

open Idealize.ShloMosaic Idealize.ShloMosaic.TcCoe Idealize.SL.Sem Cert.KernelIdeal Cert.KernelIdeal.Gen
open Idealize.ShloMosaic.ValueIdx

variable {F : FTy → Type} [FloatOps F]

/-! ## The devices a device talks to -/

/-- The device `n` further along the ring. -/
def sh (c : Dev nD) (n : ℕ) : Dev nD := ⟨(c.val + n) % 4, Nat.mod_lt _ (by decide)⟩

/-- Going on by nothing stays. -/
theorem sh_zero (c : Dev nD) : sh c 0 = c := by revert c; decide
/-- Going on by what is left of the ring comes back. -/
theorem sh_back (c : Dev nD) (i : Fin 3) : sh (sh c (i.val + 1)) (i.rev.val + 1) = c := by revert c i; decide
/-- The same from the other side. -/
theorem sh_back' (c : Dev nD) (i : Fin 3) : sh (sh c (i.rev.val + 1)) (i.val + 1) = c := by revert c i; decide
/-- The device that barrier signal `i` goes to, -/
theorem bdev_eq (c : Dev nD) (i : Fin 3) : bdev c i = sh c (i.val + 1) := by revert c i; decide
/-- the device that row block `i` goes to, -/
theorem sdev_eq (c : Dev nD) (i : Fin 3) : sdev c i = sh c (i.val + 1) := by revert c i; decide
/-- and the device that the local maximum goes to by copy `i`. -/
theorem adev_eq (c : Dev nD) (i : Fin 3) : adev c i = sh c (i.val + 1) := by revert c i; decide

/-! ## Contents -/

variable (m : (ℓ : Loc nD τ sig) → Buf (Elt F) ℓ)

/-- Device `c`'s columns of `x`. -/
def mx (c : Dev nD) : Vec F S4096x1024 .bf16 := m ((c : Thread nD τ).loc main_arg0)
/-- Device `c`'s copy of the weights. -/
def mw (c : Dev nD) : Vec F S4096x8192 .f32 := m ((c : Thread nD τ).loc main_arg1)

/-- The row block that device `c` keeps. -/
def kept (c : Dev nD) : Vec F S1024x1024 .bf16 := (xown c).view.read (Elt F) (mx m c)
/-- The row block that device `c` sends to the device `i + 1` further. -/
def sent (c : Dev nD) (i : Fin 3) : Vec F S1024x1024 .bf16 := (xsend c i).view.read (Elt F) (mx m c)
/-- What slot `q` of device `c` holds once filled: slot 0 its own row block, slot `i + 1` the one from the
    device `i + 1` further. -/
def slotC (c : Dev nD) (q : Fin 4) : Vec F S1024x1024 .bf16 :=
  match q with
  | 0 => kept m c
  | 1 => sent m (sh c 1) 2
  | 2 => sent m (sh c 2) 1
  | 3 => sent m (sh c 3) 0

/-- Slot `i + 1` holds what the device `i + 1` further sent. -/
theorem slotC_succ (c : Dev nD) (i : Fin 3) : slotC m c i.succ = sent m (sh c (i.val + 1)) i.rev := by
  fin_cases i <;> rfl

/-- The weight tile of slot `q` and column tile `j` on device `c`. -/
def wtile (c : Dev nD) (q : Fin 4) (j : Fin 8) : Vec F S1024x1024 .f32 := (wblk c q j).view.read (Elt F) (mw m c)
/-- A tile as a buffer of the double buffer holds it. -/
def stacked (X : Vec F S1024x1024 .f32) : Vec F S1x1024x1024 .f32 :=
  fun y => X ((Shape.reshapeEquiv squeezes_S1x1024x1024_S1024x1024.numel_eq).symm y)

/-- Column tile `j` of device `c`'s result after the product with slot 0, -/
def p0 (c : Dev nD) (j : Fin 8) : Vec F S1024x1024 .f32 := k0_pay1 (slotC m c 0) (stacked (wtile m c 0 j))
/-- slot 1, -/
def p1 (c : Dev nD) (j : Fin 8) : Vec F S1024x1024 .f32 := k0_pay9 (slotC m c 1) (stacked (wtile m c 1 j)) (p0 m c j)
/-- slot 3 -/
def p2 (c : Dev nD) (j : Fin 8) : Vec F S1024x1024 .f32 := k0_pay9 (slotC m c 3) (stacked (wtile m c 3 j)) (p1 m c j)
/-- and slot 2. -/
def p3 (c : Dev nD) (j : Fin 8) : Vec F S1024x1024 .f32 := k0_pay9 (slotC m c 2) (stacked (wtile m c 2 j)) (p2 m c j)

/-- The block that holds device `c`'s local maximum. -/
def lblk (c : Dev nD) : Vec F S8x128 .f32 :=
  k0_pay49 (tileMax (p3 m c 0)) (tileMax (p3 m c 1)) (tileMax (p3 m c 2)) (tileMax (p3 m c 3)) (tileMax (p3 m c 4))
    (tileMax (p3 m c 5)) (tileMax (p3 m c 6)) (tileMax (p3 m c 7))
/-- Device `c`'s local maximum. -/
def lmax (c : Dev nD) : F .f32 := lblk m c (ix2 0 0)
/-- Every entry of the block is the local maximum. -/
theorem lblk_eq (c : Dev nD) (y : S8x128.Idx) : lblk m c y = lmax m c := rfl

/-- The gathered local maxima of device `c`: row block `r` holds that of the device `r` further. -/
def gath (c : Dev nD) : Vec F S32x128 .f32 := fun y => lmax m (sh c ((y 0).val / 8))

/-- Row block `r` of the gathered maxima. -/
theorem gath_emb (c : Dev nD) (r : Fin 4) : (fun y : S8x128.Idx => gath m c ((arect r).emb y)) = lblk m (sh c r.val) := by
  funext y
  have h : ((arect r).emb y 0).val = 8 * r.val + (y 0).val := by
    show 8 * r.val + 1 * (y 0).val = _; omega
  have h8 : (y 0).val < 8 := (y 0).isLt
  show lmax m (sh c (((arect r).emb y 0).val / 8)) = lmax m (sh c r.val)
  rw [show ((arect r).emb y 0).val / 8 = r.val by omega]

/-- Device `c`'s result: every column tile rounded to the grid of the gathered maximum. -/
def outC (c : Dev nD) : Vec F S1024x8192 .f32 := fun y =>
  quant (gath m c) (p3 m c ⟨(y 1).val / 1024, by have : (y 1).val < 8192 := (y 1).isLt; omega⟩)
    (ix2 (⟨(y 0).val, (y 0).isLt⟩ : Fin 1024) (⟨(y 1).val % 1024, Nat.mod_lt _ (by decide)⟩ : Fin 1024))

/-- Column tile `j` of the result. -/
theorem outC_emb (c : Dev nD) (j : Fin 8) : (fun y : S1024x1024.Idx => outC m c ((orect j).emb y)) = quant (gath m c) (p3 m c j) := by
  funext y
  have h0 : ((orect j).emb y 0).val = (y 0).val := by
    show 0 + 1 * (y 0).val = _; omega
  have h1 : ((orect j).emb y 1).val = 1024 * j.val + (y 1).val := by
    show 1024 * j.val + 1 * (y 1).val = _; omega
  have l1 : (y 1).val < 1024 := (y 1).isLt
  unfold outC
  congr 1
  · congr 1
    exact Fin.ext (by show ((orect j).emb y 1).val / 1024 = j.val; omega)
  · rw [eq_ix2 y]
    congr 1
    · exact Fin.ext (by show ((orect j).emb y 0).val = (y 0).val; omega)
    · exact Fin.ext (by show ((orect j).emb y 1).val % 1024 = (y 1).val; omega)

end Cert.KernelIdeal.Run
-- ==== Proof.Protocol.lean ====
/- The protocol of the kernel across devices: for each semaphore who waits on it, who pays it and what the
   payment hands over, with contents; what a device owes at launch; the order of the waits.

   On device `c`, with `i : Fin 3` and `c + n` the device `n` further around the ring of four:

   * the barrier semaphore: waited on once, for 3; paid one unit by each of `c + 1`, `c + 2`, `c + 3`. The
     device `c + d + 1` hands over its slot `3 - d` of the gathered row blocks and its row block `3 - d` of the
     gathered maxima, at any contents: the two places that `c` will copy into.
   * send semaphore `i` of the row blocks: credited by `c`'s own copy to `c + i + 1`, waited on by `c`; hands
     back the row block of `x` that was read.
   * receive semaphore `i` of the row blocks: credited by the copy of `c + i + 1`, waited on by `c`; hands over
     slot `i + 1`, holding the row block that device sent.
   * send semaphore `i` of the maxima: credited by `c`'s own copy to `c + i + 1`; hands back a share of row
     block 0 of the gathered maxima, holding `c`'s local maximum.
   * receive semaphore `i` of the maxima: credited by the copy of `c + i + 1`; hands over row block `i + 1`,
     holding that device's local maximum.

   Every semaphore has one round. The other semaphores of the kernel are used by one device alone. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's rounds, the kernel's rounds, the counters of local copies -/

/-- The ghost state of the rounds, -/
abbrev UB : Type := URounds (GSem nD τ sig) (Fin 3)
/-- and all of the ghost state. -/
abbrev UU : Type := UR sig nD τ × (UB × Counters)

local notation "𝕄" => MT nD τ sig Unit (Elt F) ℕ UU ℕ

/-- The launch's part of the ghost state. -/
abbrev EP : Emb (UR sig nD τ) (MT nD τ sig Unit (Elt F) ℕ UU ℕ) := embL
/-- The kernel's rounds sit in the left half of the right factor, -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The rounds lie in the ghost state. -/
instance ER_landsIn : (ER : Emb UB 𝕄).LandsIn (upEmb : UEmb _ 𝕄) := by unfold ER; infer_instance
/-- the counters in its right half. -/
abbrev EC : UEmb Counters (MT nD τ sig Unit (Elt F) ℕ UU ℕ) := countersEmb

/-! ## The cells -/

/-- The barrier semaphore. -/
abbrev barS : Sem sig := (SemArray.scalar (sig.barrier 0 rfl) : Sems sig S_).sem

/-- A kind of cell: the barrier, or one of the four arrays of semaphores and the index in it. -/
abbrev Kind' : Type := Option (Fin 4 × Fin 3)

/-- The semaphore of a kind. -/
def csem : Kind' → SemLoc sig
  | none => .reg barS
  | some (0, i) => .dma (sem4 cc0_scratch5 i.succ)
  | some (1, i) => .dma (sem4 cc0_scratch6 i.succ)
  | some (2, i) => .dma (sem4 cc0_scratch7 i.succ)
  | some (3, i) => .dma (sem4 cc0_scratch8 i.succ)

/-- Different kinds are different semaphores, -/
theorem csem_injective : Function.Injective csem := by
  intro a b; revert a b; decide +kernel

/-- The semaphore of a kind on a device. -/
def kcell (ck : Dev nD × Kind') : GSem nD τ sig := ((ck.1 : Thread nD τ), csem ck.2)

/-- and different cells. -/
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

open Classical in
/-- The kind of a semaphore, if it is one of the protocol's. -/
def kindOf (s : SemLoc sig) : Option Kind' := if h : ∃ k, csem k = s then some h.choose else none

/-- A kind's semaphore is of that kind. -/
theorem kindOf_csem (k : Kind') : kindOf (csem k) = some k := by
  have h : ∃ k', csem k' = csem k := ⟨k, rfl⟩
  unfold kindOf
  rw [dif_pos h]
  exact congrArg some (csem_injective h.choose_spec)

/-- Any other semaphore is of no kind. -/
theorem kindOf_none {s : SemLoc sig} (h : ∀ k, csem k ≠ s) : kindOf s = none := by
  unfold kindOf
  exact dif_neg fun ⟨k, hk⟩ => h k hk

/-- Device `c`'s barrier, -/
abbrev barC (c : Dev nD) : GSem nD τ sig := kcell (c, none)
/-- its semaphores for row blocks sent -/
abbrev sndC (c : Dev nD) (i : Fin 3) : GSem nD τ sig := kcell (c, some (0, i))
/-- and received, -/
abbrev rcvC (c : Dev nD) (i : Fin 3) : GSem nD τ sig := kcell (c, some (1, i))
/-- and for the local maximum sent -/
abbrev asnC (c : Dev nD) (i : Fin 3) : GSem nD τ sig := kcell (c, some (2, i))
/-- and received. -/
abbrev arcC (c : Dev nD) (i : Fin 3) : GSem nD τ sig := kcell (c, some (3, i))

/-- The credit of one row block, -/
def NX : ℕ := (cslot 0).view.dmaCredit
/-- of one block of maxima, -/
def NA : ℕ := (ablk 0).view.dmaCredit
/-- and of one weight tile. -/
def NW : ℕ := (bslot 0).view.dmaCredit
/-- A row block is worth something, -/
theorem NX_pos : 0 < NX := View.dmaCredit_pos _ (by decide)
/-- a block of maxima is, -/
theorem NA_pos : 0 < NA := View.dmaCredit_pos _ (by decide)
/-- and a weight tile is. -/
theorem NW_pos : 0 < NW := View.dmaCredit_pos _ (by decide)

/-! ## The payloads -/

variable (m : (ℓ : Loc nD τ sig) → Buf (Elt F) ℓ)

/-- Four shares that make up the whole: three for the copies of the local maximum, one that stays. -/
def ashare : Fin 4 → PosShare TreeShare
  | 0 => (fullShare : PosShare TreeShare).left
  | 1 => (fullShare : PosShare TreeShare).right.left
  | 2 => (fullShare : PosShare TreeShare).right.right.left
  | 3 => (fullShare : PosShare TreeShare).right.right.right

/-- Slot `q` of device `c`'s gathered row blocks, holding `X`. -/
abbrev comm (c : Dev nD) (q : Fin 4) (X : Vec F S1024x1024 .bf16) : sProp 𝕄 :=
  owns (c : Thread nD τ) (cslot q) fullShare X
/-- Row block `r` of device `c`'s gathered maxima, holding `X`, at a share. -/
abbrev amx (c : Dev nD) (r : Fin 4) (q : PosShare TreeShare) (X : Vec F S8x128 .f32) : sProp 𝕄 :=
  owns (c : Thread nD τ) (ablk r) q X
/-- The row block of `x` that device `c` sends by its copy `i`. -/
abbrev xsd (c : Dev nD) (i : Fin 3) : sProp 𝕄 := owns (c : Thread nD τ) (xsend c i) fullShare (sent m c i)

/-- What the device `d + 1` further hands to `c` with its barrier signal. -/
def barPay (c : Dev nD) (d : Fin 3) : sProp 𝕄 :=
  iprop((∃ X, comm (sh c (d.val + 1)) (slot d) X) ∗ ∃ Y, amx (sh c (d.val + 1)) (slot d) fullShare Y)

/-- What duty `d` of a cell hands over. -/
def pay (c : Dev nD) : Kind' → Fin 3 → sProp 𝕄
  | none, d => barPay c d
  | some (0, i), _ => xsd m c i
  | some (1, i), _ => comm c i.succ (slotC m c i.succ)
  | some (2, i), _ => amx c 0 (ashare i.castSucc) (lblk m c)
  | some (3, i), _ => amx c i.succ fullShare (lblk m (sh c (i.val + 1)))

/-- What a duty hands over can be kept in an invariant. -/
instance pay_storable (c : Dev nD) (k : Kind') (d : Fin 3) : BI.Storable (upEmb : UEmb _ 𝕄) (pay m c k d) := by
  rcases k with _ | ⟨a, i⟩
  · unfold pay barPay; infer_instance
  · fin_cases a <;> (unfold pay; infer_instance)

/-- The units of a duty. -/
def units : Kind' → ℕ
  | none => 1
  | some (0, _) => NX
  | some (1, _) => NX
  | some (2, _) => NA
  | some (3, _) => NA

/-- Every duty is worth something. -/
theorem units_pos : ∀ k, 0 < units k
  | none => Nat.one_pos
  | some (0, _) => NX_pos
  | some (1, _) => NX_pos
  | some (2, _) => NA_pos
  | some (3, _) => NA_pos

/-- The duties of a cell. -/
def dutiesOf : Kind' → Finset (Fin 3)
  | none => Finset.univ
  | some _ => {0}

/-- One round of duties on every cell of the protocol. -/
def sched : Rounds.Schedule (GSem nD τ sig) (Fin 3) 𝕄 where
  duties g r := if r = 0 then (match kindOf g.2 with | none => ∅ | some k => dutiesOf k) else ∅
  unitless _ := False
  amount g _ _ := match kindOf g.2 with | none => 1 | some k => units k
  payload g _ d := match kindOf g.2 with | none => iprop(emp) | some k => pay m g.1.1 k d
  amount_pos g _ _ _ := by
    cases h : kindOf g.2 with
    | none => exact Nat.one_pos
    | some k => exact units_pos k

/-- So can every payload of the schedule. -/
instance sched_payload_storable (g : GSem nD τ sig) (r : ℕ) (d : Fin 3) :
    BI.Storable (upEmb : UEmb _ 𝕄) ((sched (F := F) m).payload g r d) := by
  show BI.Storable upEmb (match kindOf g.2 with | none => iprop(emp) | some k => pay m g.1.1 k d)
  cases kindOf g.2 <;> infer_instance

section Sched
variable (c : Dev nD) (k : Kind')

/-- The duties of a cell in its round; -/
theorem duties_eq : (sched (F := F) m).duties (kcell (c, k)) 0 = dutiesOf k := by
  dsimp only [sched, kcell]; rw [if_pos rfl, kindOf_csem]
/-- later there are none. -/
theorem duties_later (g : GSem nD τ sig) : ∀ r, 1 ≤ r → (sched (F := F) m).duties g r = ∅ :=
  fun r hr => by dsimp only [sched]; rw [if_neg fun h => by omega]
/-- What a duty is worth, -/
theorem amount_eq (d : Fin 3) : (sched (F := F) m).amount (kcell (c, k)) 0 d = units k := by
  dsimp only [sched, kcell]; rw [kindOf_csem]
/-- and what it hands over. -/
theorem payload_eq (d : Fin 3) : (sched (F := F) m).payload (kcell (c, k)) 0 d = pay m c k d := by
  dsimp only [sched, kcell]; rw [kindOf_csem]

/-- The barrier expects three signals, -/
theorem expect_bar : (sched (F := F) m).expect (barC c) 0 = 3 := by
  unfold Schedule.expect Schedule.amountOf
  rw [duties_eq, Finset.sum_congr rfl fun d _ => amount_eq m c none d]; rfl
/-- any other cell one copy. -/
theorem expect_copy (a : Fin 4 × Fin 3) : (sched (F := F) m).expect (kcell (c, some a)) 0 = units (some a) := by
  unfold Schedule.expect Schedule.amountOf
  rw [duties_eq, show dutiesOf (some a) = {0} from rfl, Finset.sum_singleton, amount_eq]

/-- All that the barrier's round hands over. -/
theorem rest_bar : bigSep ((sched (F := F) m).duties (barC c) 0 \ ∅) (fun d => (sched (F := F) m).payload (barC c) 0 d)
    = iprop(barPay c 0 ∗ barPay c 1 ∗ barPay c 2) := by
  rw [Finset.sdiff_empty, duties_eq, show dutiesOf none = Finset.univ from rfl,
    bigSep_univ_eq_bigSepL [0, 1, 2] (by decide) (by decide)]
  simp only [bigSepL_cons_cons, bigSepL_singleton, payload_eq]
  rfl
/-- All that a copy's round hands over. -/
theorem rest_copy (a : Fin 4 × Fin 3) :
    bigSep ((sched (F := F) m).duties (kcell (c, some a)) 0 \ ∅) (fun d => (sched (F := F) m).payload (kcell (c, some a)) 0 d)
      = pay m c (some a) 0 := by
  rw [Finset.sdiff_empty, duties_eq, show dutiesOf (some a) = {0} from rfl, bigSep_singleton, payload_eq]

end Sched

/-! ## What a device owes, and the order of the waits -/

/-- The credit of `c`'s copy `i` of its local maximum, -/
def owA (c : Dev nD) (i : Fin 3) : CellTallies nD τ sig Unit := tallyAt (arcC (sh c (i.val + 1)) i.rev) () NA
/-- of its copy `i` of a row block, -/
def owR (c : Dev nD) (i : Fin 3) : CellTallies nD τ sig Unit := tallyAt (rcvC (sh c (i.val + 1)) i.rev) () NX
/-- of its barrier signal `i`. -/
def owB (c : Dev nD) (i : Fin 3) : CellTallies nD τ sig Unit := tallyAt (barC (sh c (i.val + 1))) () 1

/-- Owed once the row blocks are sent, -/
def OA (c : Dev nD) : CellTallies nD τ sig Unit := owA c 2 + owA c 1 + owA c 0
/-- after the barrier, -/
def OR (c : Dev nD) : CellTallies nD τ sig Unit := OA c + owR c 1 + owR c 2 + owR c 0
/-- at launch. -/
def O₀ (c : Dev nD) : CellTallies nD τ sig Unit := OR c + owB c 2 + owB c 1 + owB c 0

/-- The cells that carry a level. -/
def L (g : GSem nD τ sig) : Finset Unit := if g.1.2 = .tc then {()} else ∅
/-- The level of a kind: barrier below row blocks below maxima; what a device waits for by itself lowest. -/
def lvK : Option Kind' → ℕ
  | some none => 1
  | some (some (1, _)) => 2
  | some (some (3, _)) => 3
  | _ => 0
/-- The level of a cell. -/
def lv (g : GSem nD τ sig) (_ : Unit) : ℕ := lvK (kindOf g.2)

/-- Only the main thread has cells with a level, -/
theorem L_of_ne (g : GSem nD τ sig) (h : g.1.2 ≠ .tc) : L g = ∅ := if_neg h
/-- and all of its cells have one. -/
theorem L_tc (c : Dev nD) (sm : SemLoc sig) : L ((c : Thread nD τ), sm) = {()} := if_pos rfl
/-- The level of a cell of the protocol. -/
theorem lv_kcell (c : Dev nD) (k : Kind') (u : Unit) : lv (kcell (c, k)) u = lvK (some k) := by
  unfold lv kcell; rw [kindOf_csem]

/-- All that `O` owes is above level `n`. -/
def Above (n : ℕ) (O : CellTallies nD τ sig Unit) : Prop := ∀ g u, 0 < O g u → u ∈ L g ∧ n < lv g u

/-- Nothing owed is above every level. -/
theorem above_zero (n : ℕ) : Above n 0 := fun _ _ h => absurd h (Nat.lt_irrefl 0)
/-- Two debts above a level are so together. -/
theorem above_add {n : ℕ} {O O' : CellTallies nD τ sig Unit} (h : Above n O) (h' : Above n O') : Above n (O + O') := by
  intro g u hp
  rw [Pi.add_apply, Finsupp.add_apply] at hp
  rcases Nat.eq_zero_or_pos (O g u) with h0 | h0
  · exact h' g u (by omega)
  · exact h g u h0
/-- A debt on one cell. -/
theorem above_tally {n N : ℕ} (c : Dev nD) (k : Kind') (hk : n < lvK (some k)) : Above n (tallyAt (kcell (c, k)) () N) := by
  intro g u hp
  rw [tallyAt_apply] at hp
  by_cases h : g = kcell (c, k) ∧ u = ()
  · rw [h.1]
    exact ⟨by unfold kcell; rw [L_tc]; exact Finset.mem_singleton_self _, by rw [lv_kcell]; exact hk⟩
  · rw [if_neg h] at hp; exact absurd hp (Nat.lt_irrefl 0)
/-- Above a level is above every lower one. -/
theorem Above.le {n n' : ℕ} {O : CellTallies nD τ sig Unit} (h : Above n O) (hn : n' ≤ n) : Above n' O :=
  fun g u hp => ⟨(h g u hp).1, Nat.lt_of_le_of_lt hn (h g u hp).2⟩

/-- The debts of the second exchange, -/
theorem above_OA (c : Dev nD) : Above 2 (OA c) :=
  above_add (above_add (above_tally _ _ (by decide)) (above_tally _ _ (by decide))) (above_tally _ _ (by decide))
/-- with those of the row blocks, -/
theorem above_OR (c : Dev nD) : Above 1 (OR c) :=
  above_add (above_add (above_add ((above_OA c).le (by decide)) (above_tally _ _ (by decide))) (above_tally _ _ (by decide)))
    (above_tally _ _ (by decide))
/-- and with those of the barrier. -/
theorem above_O₀ (c : Dev nD) : Above 0 (O₀ c) :=
  above_add (above_add (above_add ((above_OR c).le (by decide)) (above_tally _ _ (by decide))) (above_tally _ _ (by decide)))
    (above_tally _ _ (by decide))

/-- A device may wait on a semaphore whose level is at most `n` while all it owes is above `n`. -/
theorem mayWait (c : Dev nD) (s : SemLoc sig) (n : ℕ) (hs : lvK (kindOf s) ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact hs)
    (fun g u hg => (hO g u hg).2)

end Cert.KernelIdeal.Run
-- ==== Proof.Steps.lean ====
/- What each piece of the device program that touches one device alone does to what the device owns: reads
   and writes of a slice, the copies of weight tiles into the double buffer, one tile of a product, eight
   tiles of a product, and the rounding of a tile. -/
module

public import proofs.«01_k».proof.Proof.Protocol

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No loop needs a measure. -/
abbrev 𝒱₀ : Variants := Variants.none

/-- The weakest precondition of a program of device `c`. -/
abbrev WP (c : Dev nD) {α : Type} (p : DProg F α) (Q : α → sProp 𝕄) : sProp 𝕄 :=
  wp frame (wpE (defs₀ (F := F)) 𝒱₀ (c : Thread nD τ) none) Set.univ p Q

/-- What device `c` owes, whatever it has waited on. -/
def owesE (c : Dev nD) (O : CellTallies nD τ sig Unit) : sProp 𝕄 := iprop(∃ W, owes (c : Thread nD τ) O W)

variable {α : Type}

/-! ## Reads and writes of a slice -/

section Slice
variable (c : Dev nD) {sp : CoreSpace} {s : Shape} {e : EltTy} (M : Memref sig .tc sp s e) (r : Rect s) (hr : ∀ a, r.stride a = 1)

/-- A load of a block that is owned. -/
theorem wp_load_slice {q : PosShare TreeShare} {X : r.shape.Idx → Elt F e} {hl : M.view.LoadsAt r.toLoadRect}
    {k : (r.shape.Idx → Elt F e) → DProg F α} {Q : α → sProp 𝕄} :
    owns (c : Thread nD τ) (M.slice r hr) q X
      ⊢ iprop((owns (c : Thread nD τ) (M.slice r hr) q X -∗ WP c (k X) Q) -∗ WP c (.op (.load M r.toLoadRect hl) k) Q) := by
  unfold owns
  iintro ⟨%f, %hf, H⟩ Hk
  subst hf
  iapply (wp_load_rect 𝒱₀ (c : Thread nD τ) none Set.univ (m := M) (r := r) (S := (M.access r).set) (Finset.Subset.refl _)) $$ H
  iintro H
  iapply Hk
  iexists f
  isplitr; · ipureintro; rfl
  iexact H

/-- A store of a block that is owned. -/
theorem wp_store_slice {X w : r.shape.Idx → Elt F e} {hx : (M.access r).Stores Finset.univ}
    {hm : (Finset.univ : Finset r.shape.Idx) = Finset.univ ∨ ∀ a, r.stride a = 1}
    {k : PUnit → DProg F α} {Q : α → sProp 𝕄} :
    owns (c : Thread nD τ) (M.slice r hr) fullShare X
      ⊢ iprop((owns (c : Thread nD τ) (M.slice r hr) fullShare w -∗ WP c (k ⟨⟩) Q) -∗ WP c (.op (.store M r w Finset.univ hx hm) k) Q) := by
  unfold owns
  iintro ⟨%f, %hf, H⟩ Hk
  iapply (wp_store 𝒱₀ (c : Thread nD τ) none Set.univ (m := M) (r := r) (S := (M.access r).set) (View.setOn_subset_set _ _)) $$ H
  iintro H
  iapply Hk
  iexists _
  isplitr
  rotate_left
  · iexact H
  · ipureintro; exact View.read_write_univ _ _

end Slice

/-! ## The named reads and writes -/

section Named
variable (c : Dev nD)

/-- Column tile `j` of the result on device `c`, holding `X`. -/
abbrev otile (j : Fin 8) (X : Vec F S1024x1024 .f32) : sProp 𝕄 :=
  owns (c : Thread nD τ) (outB.slice (orect j) (fun _ => rfl)) fullShare X
/-- Weight buffer `s` on device `c`, holding `X`. -/
abbrev wbuf (s : Fin 2) (X : Vec F S1024x1024 .f32) : sProp 𝕄 := owns (c : Thread nD τ) (bslot s) fullShare X

/-- A weight buffer as a slice of the double buffer. -/
theorem wbuf_eq (s : Fin 2) (X : Vec F S1024x1024 .f32) :
    (wbuf c s X : sProp 𝕄) = owns (c : Thread nD τ) (wB.slice (brect s) (fun _ => rfl)) fullShare (stacked X) := by
  have hread (f) : (bslot s).view.read (Elt F) f
      = fun y => (wB.slice (brect s) (fun _ => rfl)).view.read (Elt F) f (Shape.reshapeEquiv squeezes_S1x1024x1024_S1024x1024.numel_eq y) := rfl
  have hset : (bslot s).view.set = (wB.slice (brect s) (fun _ => rfl)).view.set := View.set_reshape _ _
  have h₁ : (wbuf c s X : sProp 𝕄) ⊢ owns (c : Thread nD τ) (wB.slice (brect s) (fun _ => rfl)) fullShare (stacked X) := by
    unfold wbuf owns
    iintro ⟨%f, %hf, H⟩
    iexists f
    isplitr
    · ipureintro
      rw [hread] at hf
      subst hf
      funext y
      exact congrArg _ (Equiv.apply_symm_apply _ y).symm
    · rw [hset]; iexact H
  have h₂ : owns (c : Thread nD τ) (wB.slice (brect s) (fun _ => rfl)) fullShare (stacked X) ⊢ (wbuf c s X : sProp 𝕄) := by
    unfold wbuf owns
    iintro ⟨%f, %hf, H⟩
    iexists f
    isplitr
    · ipureintro
      exact (hread f).trans (funext fun y => (congrFun hf _).trans (congrArg X (Equiv.symm_apply_apply _ y)))
    · rw [hset]; iexact H
  exact BI.equiv_iff.mp ⟨h₁, h₂⟩

/-- A slot read, -/
theorem wp_loadC (q : Fin 4) (X : Vec F S1024x1024 .bf16) {k : Vec F S1024x1024 .bf16 → DProg F α} {Q : α → sProp 𝕄} :
    comm c q X ⊢ iprop((comm c q X -∗ WP c (k X) Q) -∗ WP c (loadC q >>= k) Q) :=
  wp_load_slice c commB (crect q) (fun _ => rfl)

/-- a column tile of the result read -/
theorem wp_loadO (j : Fin 8) (X : Vec F S1024x1024 .f32) {k : Vec F S1024x1024 .f32 → DProg F α} {Q : α → sProp 𝕄} :
    otile c j X ⊢ iprop((otile c j X -∗ WP c (k X) Q) -∗ WP c (loadO j >>= k) Q) :=
  wp_load_slice c outB (orect j) (fun _ => rfl)

/-- and written, -/
theorem wp_storeO (j : Fin 8) (X w : Vec F S1024x1024 .f32) {k : PUnit → DProg F α} {Q : α → sProp 𝕄} :
    otile c j X ⊢ iprop((otile c j w -∗ WP c (k ⟨⟩) Q) -∗ WP c (storeO j w >>= k) Q) :=
  wp_store_slice c outB (orect j) (fun _ => rfl)

/-- and a weight buffer read. -/
theorem wp_loadB (s : Fin 2) (X : Vec F S1024x1024 .f32) {k : Vec F S1x1024x1024 .f32 → DProg F α} {Q : α → sProp 𝕄} :
    wbuf c s X ⊢ iprop((wbuf c s X -∗ WP c (k (stacked X)) Q) -∗ WP c (loadB s >>= k) Q) := by
  rw [wbuf_eq]
  exact wp_load_slice c wB (brect s) (fun _ => rfl)

end Named

/-! ## The weight tiles -/

section Weights
variable (m : (ℓ : Loc nD τ sig) → Buf (Elt F) ℓ) (c : Dev nD)

/-- The share of the weights that the copies into buffer `s` read. -/
def wSh : Fin 2 → PosShare TreeShare
  | 0 => (fullShare : PosShare TreeShare).left
  | 1 => (fullShare : PosShare TreeShare).right

/-- That share of all the weights. -/
abbrev wAll (s : Fin 2) : sProp 𝕄 := ((c : Thread nD τ).loc main_arg1) ↦{wSh s} mw m c
/-- That share of one weight tile, -/
abbrev wSome (q : Fin 4) (j : Fin 8) (s : Fin 2) : sProp 𝕄 :=
  ((c : Thread nD τ).loc main_arg1) ↦[(wblk c q j).view.set]{wSh s} mw m c
/-- and of the rest of the weights. -/
abbrev wRest (q : Fin 4) (j : Fin 8) (s : Fin 2) : sProp 𝕄 :=
  ((c : Thread nD τ).loc main_arg1) ↦[Finset.univ \ (wblk c q j).view.set]{wSh s} mw m c

/-- Buffer `s` with no copy under way. -/
def wIdle (s : Fin 2) : sProp 𝕄 :=
  iprop((∃ X, wbuf c s X) ∗ semVal ((c : Thread nD τ), SemLoc.dma (wsem s)) 0 ∗ wAll m c s)
/-- Buffer `s` with the copy of a tile under way. -/
def wBusy (q : Fin 4) (j : Fin 8) (s : Fin 2) : sProp 𝕄 :=
  iprop(Transfers.Flight EC (c : Thread nD τ) (.dma (wsem s)) () NW iprop(wbuf c s (wtile m c q j) ∗ wSome m c q j s)
    ∗ wRest m c q j s)
/-- Buffer `s` once the tile has landed. -/
def wReady (q : Fin 4) (j : Fin 8) (s : Fin 2) : sProp 𝕄 :=
  iprop(wbuf c s (wtile m c q j) ∗ semVal ((c : Thread nD τ), SemLoc.dma (wsem s)) 0 ∗ wAll m c s)

/-- One tile taken out of the weights. -/
theorem wAll_split (q : Fin 4) (j : Fin 8) (s : Fin 2) :
    (wAll m c s : sProp 𝕄) ⊣⊢ iprop(wSome m c q j s ∗ wRest m c q j s) :=
  pointsTo_split_subset (Finset.subset_univ _)

/-- A buffer whose tile has been used is free. -/
theorem wReady_idle (q : Fin 4) (j : Fin 8) (s : Fin 2) : (wReady m c q j s : sProp 𝕄) ⊢ wIdle m c s := by
  unfold wReady wIdle
  iintro ⟨H, Hv, Ha⟩
  isplitl [H]; · iexists _; iexact H
  isplitl [Hv] <;> iassumption

/-- The start of a tile's copy into a free buffer, -/
theorem wp_startW (q : Fin 4) (j : Fin 8) (s : Fin 2) {k : PUnit → DProg F α} {Q : α → sProp 𝕄} :
    wIdle m c s ⊢ iprop((wBusy m c q j s -∗ WP c (k ⟨⟩) Q) -∗ WP c (startW c q j s >>= k) Q) := by
  unfold wIdle wBusy startW wbuf
  simp only [Prog.lift, Prog.bind_op, Prog.bind_ret]
  conv_lhs => unfold owns
  iintro ⟨⟨%X, %f, %hf, Hb⟩, Hv, Ha⟩ Hk
  ihave Ha := (wAll_split m c q j s).1 $$ Ha
  icases Ha with ⟨Hs, Hr⟩
  iapply (Transfers.wp_dmaLocal EC 𝒱₀ (c : Thread nD τ) none (src := wblk c q j) (dst := bslot s) (sm := .dma (wsem s))
    (fs := mw m c) (q := wSh s) (Sd := (bslot s).view.set) (fd := f) () NW rfl NW_pos (Finset.Subset.refl _)) $$ [Hs Hb Hv]
  · isplitl [Hs]; · iexact Hs
    isplitl [Hb] <;> iassumption
  iintro HF
  iapply Hk
  isplitr [Hr]
  · iapply (Transfers.Flight_mono EC (c : Thread nD τ) ?_) $$ HF
    iintro ⟨H, Hs⟩
    isplitl [H]
    · unfold owns
      iexists _
      isplitr
      rotate_left
      · iexact H
      · ipureintro; exact View.read_write_univ _ _
    · iexact Hs
  · iexact Hr

/-- and the wait for it. -/
theorem wp_waitW (q : Fin 4) (j : Fin 8) (s : Fin 2) {O : CellTallies nD τ sig Unit} (hO : Above 0 O) {k : PUnit → DProg F α} {Q : α → sProp 𝕄} :
    iprop(levAts L lv ∗ wBusy m c q j s ∗ owesE c O)
      ⊢ iprop((wReady m c q j s ∗ owesE c O -∗ WP c (k ⟨⟩) Q) -∗ WP c (waitW c q j s >>= k) Q) := by
  unfold wReady wBusy waitW owesE
  simp only [Prog.lift, Prog.bind_op, Prog.bind_ret]
  iintro ⟨Hlev, ⟨HF, Hr⟩, ⟨%W, HO⟩⟩ Hk
  iapply (Transfers.wp_waitLocalO EC 𝒱₀ (c : Thread nD τ) none (srcw := wblk c q j) (dstw := bslot s)
    (hsrc := View.wordExact_bits rfl) (hdst := (View.wordExact_bits rfl).reshape _ _) () (N := NW) rfl) $$ [HF HO Hlev]
  · isplitl [HF]; · iexact HF
    isplitl [HO]; · iexact HO
    iapply (mayWait c _ 0 (by rw [kindOf_none (by intro k; revert k s; decide +kernel)]; exact Nat.le_refl 0) hO); iexact Hlev
  iintro ⟨⟨Hb, Hs⟩, Hv, HO⟩
  iapply Hk
  isplitr [HO]
  · isplitl [Hb]; · iexact Hb
    isplitl [Hv]; · iexact Hv
    iapply (wAll_split m c q j s).2
    isplitl [Hs] <;> iassumption
  · iexists _; iexact HO

end Weights

end Cert.KernelIdeal.Run
-- ==== Proof.Comm.lean ====
/- What each piece of the device program that talks to other devices does: the barrier, the copies of row
   blocks and of local maxima, the waits for them, and the exchange of the maxima as a whole. -/
module

public import proofs.«01_k».proof.Proof.Steps
public import Idealize.ShloMosaic.Lib.MemrefSat

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} (m : (ℓ : Loc nD τ sig) → Buf (Elt F) ℓ)

/-! ## What every device knows -/

/-- The invariants of all cells of the protocol, at names `K`, and that every cell has begun its round. -/
def known (K : Dev nD × Kind' → ℕ) : sProp 𝕄 :=
  iprop((bigSep Finset.univ fun ck : Dev nD × Kind' => cellInv ER (sched m) (K ck) (kcell ck))
    ∗ bigSep Finset.univ fun ck : Dev nD × Kind' => reached ER (kcell ck) 0)

/-- It can be used any number of times. -/
instance known_persistent (K : Dev nD × Kind' → ℕ) : BI.Persistent (known m K) := by unfold known; infer_instance

omit [FloatOps F] in
/-- One conjunct out of all. -/
theorem of_all (Φ : Dev nD × Kind' → sProp 𝕄) (ck : Dev nD × Kind') : bigSep Finset.univ Φ ⊢ Φ ck :=
  bigSep_elim (Finset.mem_univ ck)
/-- A cell's invariant. -/
theorem known_inv (K : Dev nD × Kind' → ℕ) (ck : Dev nD × Kind') :
    (known m K : sProp 𝕄) ⊢ cellInv ER (sched m) (K ck) (kcell ck) := by
  unfold known
  iintro ⟨H, -⟩
  iapply (of_all (fun ck : Dev nD × Kind' => cellInv ER (sched m) (K ck) (kcell ck)) ck); iexact H
/-- A cell has begun its round. -/
theorem known_reached (K : Dev nD × Kind' → ℕ) (ck : Dev nD × Kind') :
    (known m K : sProp 𝕄) ⊢ reached ER (kcell ck) 0 := by
  unfold known
  iintro ⟨-, H⟩
  iapply (of_all (fun ck : Dev nD × Kind' => (reached ER (kcell ck) 0 : sProp 𝕄)) ck); iexact H

variable (K : Dev nD × Kind' → ℕ) (c : Dev nD)

/-! ## The barrier -/

/-- What signal `i` hands over, seen from the device that signals. -/
theorem pay_own (i : Fin 3) : pay m (sh c (i.val + 1)) none i.rev
    = iprop((∃ X, comm c i.succ X) ∗ ∃ Y, amx c i.succ fullShare Y) := by
  show barPay (sh c (i.val + 1)) i.rev = _
  unfold barPay
  rw [sh_back, slot, Fin.rev_rev]

/-- What the copy `i` of a row block hands to the device it goes to. -/
theorem pay_rcv (i : Fin 3) : pay m (sh c (i.val + 1)) (some (1, i.rev)) 0 = comm (sh c (i.val + 1)) (slot i) (sent m c i) := by
  show comm (sh c (i.val + 1)) (slot i) (slotC m (sh c (i.val + 1)) i.rev.succ) = _
  rw [slotC_succ, sh_back, Fin.rev_rev]
/-- What the copy `i` of the local maximum hands to the device it goes to. -/
theorem pay_arc (i : Fin 3) : pay m (sh c (i.val + 1)) (some (3, i.rev)) 0 = amx (sh c (i.val + 1)) (slot i) fullShare (lblk m c) := by
  show amx (sh c (i.val + 1)) (slot i) fullShare (lblk m (sh (sh c (i.val + 1)) (i.rev.val + 1))) = _
  rw [sh_back]

/-- Barrier signal `i`: device `c` hands over its slot and its row block of maxima `i + 1`. -/
theorem wp_sig (i : Fin 3) (O : CellTallies nD τ sig Unit) {k : PUnit → DProg F α} {Q : α → sProp 𝕄} :
    iprop(known m K ∗ owesE c (O + owB c i) ∗ dutyTok ER (barC (sh c (i.val + 1))) 0 i.rev
        ∗ (∃ X, comm c i.succ X) ∗ (∃ Y, amx c i.succ fullShare Y))
      ⊢ iprop((owesE c O -∗ WP c (k ⟨⟩) Q) -∗ WP c (semSignalWord (bdev c i) barS 1#32 >>= k) Q) := by
  rw [bdev_eq]
  unfold owesE
  simp only [semSignalWord, Prog.lift, Prog.bind_op, Prog.bind_ret]
  iintro ⟨#HR, ⟨%W, HO⟩, Ht, HC, HA⟩ Hk
  iapply (Rounds.wp_signal 𝒱₀ ER (sched m) (c : Thread nD τ) none (dst := (sh c (i.val + 1) : Thread nD τ))
      (κ := K (sh c (i.val + 1), none)) (r := 0) (d := i.rev)
      (by show i.rev ∈ (sched m).duties (barC (sh c (i.val + 1))) 0; rw [duties_eq]; exact Finset.mem_univ _)
      ((amount_eq m (sh c (i.val + 1)) none i.rev).trans (by decide)) () O rfl)
    $$ [HO Ht HC HA]
  · isplitr; · iapply (known_inv m K (sh c (i.val + 1), none)); iexact HR
    isplitl [HO]; · iexact HO
    isplitl [Ht]; · iexact Ht
    isplitl [HC HA]
    · iapply (Entails.of_eq (show (sched m).payload ((sh c (i.val + 1)).tc, SemLoc.reg barS) 0 i.rev = _ from payload_eq m (sh c (i.val + 1)) none i.rev).symm)
      iapply (Entails.of_eq (pay_own m c i).symm)
      isplitl [HC] <;> iassumption
    iapply (known_reached m K (sh c (i.val + 1), none)); iexact HR
  iintro HO
  iapply Hk
  iexists W; iexact HO

/-- The barrier's wait: the places on the other devices that `c` will copy into. -/
theorem wp_barWait {O : CellTallies nD τ sig Unit} (hO : Above 1 O) {k : PUnit → DProg F α} {Q : α → sProp 𝕄} :
    iprop(known m K ∗ levAts L lv ∗ owesE c O ∗ cred (tallyAt (barC c) () 3) ∗ atPos ER (barC c) 0 ∅ 0)
      ⊢ iprop((owesE c O ∗ atPos ER (barC c) 1 ∅ 0 ∗ barPay c 0 ∗ barPay c 1 ∗ barPay c 2 -∗ WP c (k ⟨⟩) Q)
        -∗ WP c (semWaitWord barS 3#32 >>= k) Q) := by
  unfold owesE
  simp only [semWaitWord, Prog.lift, Prog.bind_op, Prog.bind_ret]
  iintro ⟨#HR, #Hlev, ⟨%W, HO⟩, Hc, Hat⟩ Hk
  iapply (Rounds.wp_wait_rest_token 𝒱₀ ER (sched m) (c : Thread nD τ) none (κ := K (c, none))
      (wpE_semWait_eq 𝒱₀ (c : Thread nD τ) none Set.univ) (Set.mem_univ _) () (O := O) (W := W) (R := 0) (m := 0) (T := ∅)
      (by show _ = (sched m).expect (barC c) 0; rw [expect_bar]; decide)) $$ [Hc HO Hat]
  · isplitr; · iapply (known_inv m K (c, none)); iexact HR
    isplitl [Hc]; · iexact Hc
    isplitl [HO]; · iexact HO
    isplitr
    · iapply (mayWait c (csem none) 1 (by rw [kindOf_csem]; decide) hO); iexact Hlev
    iexact Hat
  iintro ⟨HO, Hat, -, Hpay⟩
  ihave Hp := (Entails.of_eq (show bigSep ((sched m).duties (c.tc, SemLoc.reg barS) 0 \ ∅) (fun d => (sched m).payload (c.tc, SemLoc.reg barS) 0 d) = _ from rest_bar m c)) $$ Hpay
  iapply Hk
  isplitl [HO]; · iexists _; iexact HO
  isplitl [Hat]; · iexact Hat
  iexact Hp

/-! ## The copies between devices -/

/-- A wait on a copy's semaphore: what the copy hands over. -/
theorem wp_waitCopy (a : Fin 4 × Fin 3) {s s' : Shape} {e e' : EltTy} {sp sp' : Space} {sem : DmaSem sig}
    {src : Memref sig .tc sp' s' e'} {dst : Memref sig .tc sp s e} {hsrc : src.view.WordExact} {hdst : dst.view.WordExact}
    (hsem : csem (some a) = .dma sem) (hcr : dst.view.dmaCredit = units (some a)) (n : ℕ) (hn : lvK (some (some a)) ≤ n)
    {O : CellTallies nD τ sig Unit} (hO : Above n O) {k : PUnit → DProg F α} {Q : α → sProp 𝕄} :
    iprop(known m K ∗ levAts L lv ∗ owesE c O ∗ cred (tallyAt (kcell (c, some a)) () (units (some a)))
        ∗ atPos ER (kcell (c, some a)) 0 ∅ 0)
      ⊢ iprop((owesE c O ∗ atPos ER (kcell (c, some a)) 1 ∅ 0 ∗ pay m c (some a) 0 -∗ WP c (k ⟨⟩) Q)
        -∗ WP c (.op (.waitDma2 sem src dst hsrc hdst) k) Q) := by
  have hcell : kcell (c, some a) = ((c : Thread nD τ), SemLoc.dma sem) := by unfold kcell; rw [hsem]
  have hex := expect_copy m c a
  have hrest := rest_copy m c a
  have hinv := known_inv m K (c, some a)
  rw [hcell] at hex hrest hinv ⊢
  unfold owesE
  iintro ⟨#HR, #Hlev, ⟨%W, HO⟩, Hc, Hat⟩ Hk
  iapply (Rounds.wp_wait_rest_token 𝒱₀ ER (sched m) (c : Thread nD τ) none (κ := K (c, some a)) (k' := units (some a))
      (fun Kt => by rw [← hcr]; exact wpE_waitDma2_eq 𝒱₀ (c : Thread nD τ) none Set.univ Kt) (Set.mem_univ _) () (O := O) (W := W) (R := 0) (m := 0) (T := ∅)
      (by rw [Nat.zero_add, hex])) $$ [Hc HO Hat]
  · isplitr; · iapply hinv; iexact HR
    isplitl [Hc]; · iexact Hc
    isplitl [HO]; · iexact HO
    isplitr
    · iapply (mayWait c _ n (by rw [← hsem, kindOf_csem]; exact hn) hO); iexact Hlev
    iexact Hat
  iintro ⟨HO, Hat, -, Hpay⟩
  ihave Hp := (Entails.of_eq hrest) $$ Hpay
  iapply Hk
  isplitl [HO]; · iexists _; iexact HO
  isplitl [Hat]; · iexact Hat
  iexact Hp

/-- A row block sent to the device `i + 1` further, addressed to `n`. -/
theorem wp_sendX_to (i : Fin 3) (n : Dev nD) (hn : n = sh c (i.val + 1))
    {hsc : (cslot (slot i)).view.ref.isScScratch = false} {hsrc : (xsend c i).view.WordExact} {hdst : (cslot (slot i)).view.WordExact}
    {hsem : DmaTarget.Typed .hbm (.dma (sem4 cc0_scratch6 (slot i))) (.remote (Dev.tc n : Thread nD τ) (cslot (slot i)) (.dma (sem4 cc0_scratch5 i.succ)) hsc)}
    (O : CellTallies nD τ sig Unit) {k : PUnit → DProg F α} {Q : α → sProp 𝕄} :
    iprop(known m K ∗ owesE c (O + owR c i) ∗ xsd m c i ∗ (∃ X, comm (sh c (i.val + 1)) (slot i) X)
        ∗ dutyTok ER (sndC c i) 0 0 ∗ dutyTok ER (rcvC (sh c (i.val + 1)) i.rev) 0 0)
      ⊢ iprop((owesE c O ∗ cred (tallyAt (sndC c i) () NX) -∗ WP c (k ⟨⟩) Q) -∗ WP c (.op (.enqueueDma (xsend c i) (.remote (Dev.tc n : Thread nD τ) (cslot (slot i)) (.dma (sem4 cc0_scratch5 i.succ)) hsc) (.dma (sem4 cc0_scratch6 (slot i))) hsrc hdst hsem) k) Q) := by
  unfold owesE
  subst hn
  conv_lhs => unfold xsd comm owns
  iintro ⟨#HR, ⟨%W, HO⟩, ⟨%fs, %hfs, Hs⟩, ⟨%X, %fd, %hfd, Hd⟩, Ht1, Ht2⟩ Hk
  iapply (Rounds.wp_send_pointsTo 𝒱₀ ER (sched m) (c : Thread nD τ) none
      (c' := (sh c (i.val + 1) : Thread nD τ)) (src := xsend c i) (dst := cslot (slot i))
      (sS := .dma (sem4 cc0_scratch5 i.succ)) (sem := .dma (sem4 cc0_scratch6 (slot i)))
      (κ₁ := K (c, some (0, i))) (κ₂ := K (sh c (i.val + 1), some (1, i.rev)))
      (r₁ := 0) (r₂ := 0) (d₁ := 0) (d₂ := 0) (fs := fs) (fd := fd) (q := fullShare)
      (by show 0 ∈ (sched m).duties (sndC c i) 0; rw [duties_eq]; exact Finset.mem_singleton_self _)
      (by show 0 ∈ (sched m).duties (rcvC (sh c (i.val + 1)) i.rev) 0; rw [duties_eq]; exact Finset.mem_singleton_self _)
      () () NX rfl (amount_eq m c (some (0, i)) 0) (amount_eq m (sh c (i.val + 1)) (some (1, i.rev)) 0) O rfl (W := W)
      ?_ ?_) $$ [Hs Hd HO Ht1 Ht2]
  · iintro H
    iapply (Entails.of_eq (show (sched m).payload (c.tc, SemLoc.dma (sem4 cc0_scratch5 i.succ)) 0 0 = _ from payload_eq m c (some (0, i)) 0).symm)
    unfold pay xsd owns
    iexists fs
    isplitr; · ipureintro; exact hfs
    iexact H
  · iintro H
    iapply (Entails.of_eq (show (sched m).payload ((sh c (i.val + 1)).tc, SemLoc.dma (sem4 cc0_scratch6 (slot i))) 0 0 = _ from
      (payload_eq m (sh c (i.val + 1)) (some (1, i.rev)) 0).trans (pay_rcv m c i)).symm)
    unfold comm owns
    iexists _
    isplitr
    rotate_left
    · iexact H
    · ipureintro; rw [hfs]; exact View.read_write_univ _ _
  · isplitr; · iapply (known_inv m K (c, some (0, i))); iexact HR
    isplitr; · iapply (known_inv m K (sh c (i.val + 1), some (1, i.rev))); iexact HR
    isplitl [Hs]; · iexact Hs
    isplitl [Hd]; · iexact Hd
    isplitl [HO]; · iexact HO
    isplitl [Ht1]; · iexact Ht1
    isplitr; · iapply (known_reached m K (c, some (0, i))); iexact HR
    isplitl [Ht2]; · iexact Ht2
    iapply (known_reached m K (sh c (i.val + 1), some (1, i.rev))); iexact HR
  · iintro ⟨Hc, HO⟩
    iapply Hk
    isplitl [HO]; · iexists W; iexact HO
    iexact Hc

/-- A row block sent to the device `i + 1` further. -/
theorem wp_sendX (i : Fin 3) (O : CellTallies nD τ sig Unit) {k : PUnit → DProg F α} {Q : α → sProp 𝕄} :
    iprop(known m K ∗ owesE c (O + owR c i) ∗ xsd m c i ∗ (∃ X, comm (sh c (i.val + 1)) (slot i) X)
        ∗ dutyTok ER (sndC c i) 0 0 ∗ dutyTok ER (rcvC (sh c (i.val + 1)) i.rev) 0 0)
      ⊢ iprop((owesE c O ∗ cred (tallyAt (sndC c i) () NX) -∗ WP c (k ⟨⟩) Q) -∗ WP c (sendX c i >>= k) Q) := by
  unfold sendX
  simp only [Prog.lift, Prog.bind_op, Prog.bind_ret]
  exact wp_sendX_to m K c i (sdev c i) (sdev_eq c i) O

/-- The local maximum sent to the device `i + 1` further, addressed to `n`. -/
theorem wp_sendA_to (i : Fin 3) (n : Dev nD) (hn : n = sh c (i.val + 1))
    {hsc : (ablk (slot i)).view.ref.isScScratch = false} {hsrc : (ablk 0).view.WordExact} {hdst : (ablk (slot i)).view.WordExact}
    {hsem : DmaTarget.Typed .vmem (.dma (sem4 cc0_scratch8 (slot i))) (.remote (Dev.tc n : Thread nD τ) (ablk (slot i)) (.dma (sem4 cc0_scratch7 i.succ)) hsc)}
    (O : CellTallies nD τ sig Unit) {k : PUnit → DProg F α} {Q : α → sProp 𝕄} :
    iprop(known m K ∗ owesE c (O + owA c i) ∗ amx c 0 (ashare i.castSucc) (lblk m c)
        ∗ (∃ X, amx (sh c (i.val + 1)) (slot i) fullShare X)
        ∗ dutyTok ER (asnC c i) 0 0 ∗ dutyTok ER (arcC (sh c (i.val + 1)) i.rev) 0 0)
      ⊢ iprop((owesE c O ∗ cred (tallyAt (asnC c i) () NA) -∗ WP c (k ⟨⟩) Q) -∗ WP c (.op (.enqueueDma (ablk 0) (.remote (Dev.tc n : Thread nD τ) (ablk (slot i)) (.dma (sem4 cc0_scratch7 i.succ)) hsc) (.dma (sem4 cc0_scratch8 (slot i))) hsrc hdst hsem) k) Q) := by
  unfold owesE
  subst hn
  conv_lhs => unfold amx owns
  iintro ⟨#HR, ⟨%W, HO⟩, ⟨%fs, %hfs, Hs⟩, ⟨%X, %fd, %hfd, Hd⟩, Ht1, Ht2⟩ Hk
  iapply (Rounds.wp_send_pointsTo 𝒱₀ ER (sched m) (c : Thread nD τ) none
      (c' := (sh c (i.val + 1) : Thread nD τ)) (src := ablk 0) (dst := ablk (slot i))
      (sS := .dma (sem4 cc0_scratch7 i.succ)) (sem := .dma (sem4 cc0_scratch8 (slot i)))
      (κ₁ := K (c, some (2, i))) (κ₂ := K (sh c (i.val + 1), some (3, i.rev)))
      (r₁ := 0) (r₂ := 0) (d₁ := 0) (d₂ := 0) (fs := fs) (fd := fd) (q := ashare i.castSucc)
      (by show 0 ∈ (sched m).duties (asnC c i) 0; rw [duties_eq]; exact Finset.mem_singleton_self _)
      (by show 0 ∈ (sched m).duties (arcC (sh c (i.val + 1)) i.rev) 0; rw [duties_eq]; exact Finset.mem_singleton_self _)
      () () NA rfl (amount_eq m c (some (2, i)) 0) (amount_eq m (sh c (i.val + 1)) (some (3, i.rev)) 0) O rfl (W := W)
      ?_ ?_) $$ [Hs Hd HO Ht1 Ht2]
  · iintro H
    iapply (Entails.of_eq (show (sched m).payload (c.tc, SemLoc.dma (sem4 cc0_scratch7 i.succ)) 0 0 = _ from payload_eq m c (some (2, i)) 0).symm)
    unfold pay amx owns
    iexists fs
    isplitr; · ipureintro; exact hfs
    iexact H
  · iintro H
    iapply (Entails.of_eq (show (sched m).payload ((sh c (i.val + 1)).tc, SemLoc.dma (sem4 cc0_scratch8 (slot i))) 0 0 = _ from
      (payload_eq m (sh c (i.val + 1)) (some (3, i.rev)) 0).trans (pay_arc m c i)).symm)
    unfold amx owns
    iexists _
    isplitr
    rotate_left
    · iexact H
    · ipureintro; rw [hfs]; exact View.read_write_univ _ _
  · isplitr; · iapply (known_inv m K (c, some (2, i))); iexact HR
    isplitr; · iapply (known_inv m K (sh c (i.val + 1), some (3, i.rev))); iexact HR
    isplitl [Hs]; · iexact Hs
    isplitl [Hd]; · iexact Hd
    isplitl [HO]; · iexact HO
    isplitl [Ht1]; · iexact Ht1
    isplitr; · iapply (known_reached m K (c, some (2, i))); iexact HR
    isplitl [Ht2]; · iexact Ht2
    iapply (known_reached m K (sh c (i.val + 1), some (3, i.rev))); iexact HR
  · iintro ⟨Hc, HO⟩
    iapply Hk
    isplitl [HO]; · iexists W; iexact HO
    iexact Hc

/-- The local maximum sent to the device `i + 1` further. -/
theorem wp_sendA (i : Fin 3) (O : CellTallies nD τ sig Unit) {k : PUnit → DProg F α} {Q : α → sProp 𝕄} :
    iprop(known m K ∗ owesE c (O + owA c i) ∗ amx c 0 (ashare i.castSucc) (lblk m c)
        ∗ (∃ X, amx (sh c (i.val + 1)) (slot i) fullShare X)
        ∗ dutyTok ER (asnC c i) 0 0 ∗ dutyTok ER (arcC (sh c (i.val + 1)) i.rev) 0 0)
      ⊢ iprop((owesE c O ∗ cred (tallyAt (asnC c i) () NA) -∗ WP c (k ⟨⟩) Q) -∗ WP c (sendA c i >>= k) Q) := by
  unfold sendA
  simp only [Prog.lift, Prog.bind_op, Prog.bind_ret]
  exact wp_sendA_to m K c i (adev c i) (adev_eq c i) O

/-- A semaphore of the protocol after its round is at zero. -/
theorem close (ck : Dev nD × Kind') :
    iprop(known m K ∗ atPos ER (kcell ck) 1 ∅ 0) ⊢ iprop(|={Set.univ}=> semVal (kcell ck) 0 : sProp 𝕄) := by
  iintro ⟨#HR, Hat⟩
  iapply (Rounds.cell_close ER (sched m) (Set.mem_univ (K ck)) (fun h => h) (R := 1) (duties_later m (kcell ck)))
  isplitr; · iapply (known_inv m K ck); iexact HR
  iexact Hat

end Cert.KernelIdeal.Run
-- ==== Proof.Groups.lean ====
/- The repeated pieces of the device program: one tile of a product, the eight tiles of a product with the
   weight tiles arriving through the double buffer, and the rounding of the eight tiles. -/
module

public import proofs.«01_k».proof.Proof.Steps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} (m : (ℓ : Loc nD τ sig) → Buf (Elt F) ℓ) (c : Dev nD)

/-! ## One tile -/

/-- A tile of the first product, then the copy of the tile that the freed buffer takes next. -/
theorem wp_stepFirst (q : Fin 4) (j : Fin 8) (s : Fin 2) (q' : Fin 4) (j' : Fin 8) (X : Vec F S1024x1024 .bf16)
    (Y : Vec F S1024x1024 .f32) {O : CellTallies nD τ sig Unit} (hO : Above 0 O)
    {k : PUnit → DProg F α} {Q : α → sProp 𝕄} :
    iprop(levAts L lv ∗ owesE c O ∗ comm c q X ∗ wBusy m c q j s ∗ otile c j Y)
      ⊢ iprop((owesE c O ∗ comm c q X ∗ wBusy m c q' j' s ∗ otile c j (k0_pay1 X (stacked (wtile m c q j)))
          -∗ WP c (k ⟨⟩) Q)
        -∗ WP c (stepFirst c q j s >>= fun _ => startW c q' j' s >>= k) Q) := by
  unfold stepFirst
  simp only [bind_assoc]
  iintro ⟨Hlev, HO, HC, HW, HY⟩ Hk
  iapply (wp_waitW m c q j s hO) $$ [Hlev HW HO]
  · isplitl [Hlev]; · iexact Hlev
    isplitl [HW] <;> iassumption
  iintro ⟨HW, HO⟩
  unfold wReady
  icases HW with ⟨HB, Hv, Ha⟩
  iapply (wp_loadC c q X) $$ HC; iintro HC
  iapply (wp_loadB c s (wtile m c q j)) $$ HB; iintro HB
  iapply (wp_loadO c j Y) $$ HY; iintro HY
  iapply (wp_storeO c j Y) $$ HY; iintro HY
  ihave HW := (wReady_idle m c q j s) $$ [HB Hv Ha]
  · unfold wReady
    isplitl [HB]; · iexact HB
    isplitl [Hv] <;> iassumption
  iapply (wp_startW m c q' j' s) $$ HW; iintro HW
  iapply Hk
  isplitl [HO]; · iexact HO
  isplitl [HC]; · iexact HC
  isplitl [HW] <;> iassumption

/-- A tile of a later product. -/
theorem wp_stepAdd (q : Fin 4) (j : Fin 8) (s : Fin 2) (X : Vec F S1024x1024 .bf16)
    (Y : Vec F S1024x1024 .f32) {O : CellTallies nD τ sig Unit} (hO : Above 0 O)
    {k : Vec F S1024x1024 .f32 → DProg F α} {Q : α → sProp 𝕄} :
    iprop(levAts L lv ∗ owesE c O ∗ comm c q X ∗ wBusy m c q j s ∗ otile c j Y)
      ⊢ iprop((owesE c O ∗ comm c q X ∗ wIdle m c s ∗ otile c j (k0_pay9 X (stacked (wtile m c q j)) Y)
          -∗ WP c (k (k0_pay9 X (stacked (wtile m c q j)) Y)) Q)
        -∗ WP c (stepAdd c q j s >>= k) Q) := by
  unfold stepAdd
  simp only [bind_assoc, pure_bind]
  iintro ⟨Hlev, HO, HC, HW, HY⟩ Hk
  iapply (wp_waitW m c q j s hO) $$ [Hlev HW HO]
  · isplitl [Hlev]; · iexact Hlev
    isplitl [HW] <;> iassumption
  iintro ⟨HW, HO⟩
  unfold wReady
  icases HW with ⟨HB, Hv, Ha⟩
  iapply (wp_loadC c q X) $$ HC; iintro HC
  iapply (wp_loadB c s (wtile m c q j)) $$ HB; iintro HB
  iapply (wp_loadO c j Y) $$ HY; iintro HY
  iapply (wp_loadO c j Y) $$ HY; iintro HY
  iapply (wp_storeO c j Y) $$ HY; iintro HY
  ihave HW := (wReady_idle m c q j s) $$ [HB Hv Ha]
  · unfold wReady
    isplitl [HB]; · iexact HB
    isplitl [Hv] <;> iassumption
  iapply Hk
  isplitl [HO]; · iexact HO
  isplitl [HC]; · iexact HC
  isplitl [HW] <;> iassumption

/-- The same with the copy of the tile that the freed buffer takes next. -/
theorem wp_stepNext (q : Fin 4) (j : Fin 8) (s : Fin 2) (q' : Fin 4) (j' : Fin 8) (X : Vec F S1024x1024 .bf16)
    (Y : Vec F S1024x1024 .f32) {O : CellTallies nD τ sig Unit} (hO : Above 0 O)
    {k : Vec F S1024x1024 .f32 → PUnit → DProg F α} {Q : α → sProp 𝕄} :
    iprop(levAts L lv ∗ owesE c O ∗ comm c q X ∗ wBusy m c q j s ∗ otile c j Y)
      ⊢ iprop((owesE c O ∗ comm c q X ∗ wBusy m c q' j' s ∗ otile c j (k0_pay9 X (stacked (wtile m c q j)) Y)
          -∗ WP c (k (k0_pay9 X (stacked (wtile m c q j)) Y) ⟨⟩) Q)
        -∗ WP c (stepAdd c q j s >>= fun v => startW c q' j' s >>= k v) Q) := by
  iintro H Hk
  iapply (wp_stepAdd m c q j s X Y hO) $$ H
  iintro ⟨HO, HC, HW, HY⟩
  iapply (wp_startW m c q' j' s) $$ HW; iintro HW
  iapply Hk
  isplitl [HO]; · iexact HO
  isplitl [HC]; · iexact HC
  isplitl [HW] <;> iassumption

/-! ## Eight tiles -/

/-- The eight column tiles of the result. -/
def outs (X : Fin 8 → Vec F S1024x1024 .f32) : sProp 𝕄 :=
  iprop(otile c 0 (X 0) ∗ otile c 1 (X 1) ∗ otile c 2 (X 2) ∗ otile c 3 (X 3)
    ∗ otile c 4 (X 4) ∗ otile c 5 (X 5) ∗ otile c 6 (X 6) ∗ otile c 7 (X 7))

/-- The two weight buffers with the first two tiles of slot `q` under way. -/
def wPair (q : Fin 4) : sProp 𝕄 := iprop(wBusy m c q 0 0 ∗ wBusy m c q 1 1)

/-- The first product. -/
theorem wp_groupFirst (Y : Fin 8 → Vec F S1024x1024 .f32) {O : CellTallies nD τ sig Unit} (hO : Above 0 O)
    {k : PUnit → DProg F α} {Q : α → sProp 𝕄} :
    iprop(levAts L lv ∗ owesE c O ∗ comm c 0 (slotC m c 0) ∗ wPair m c 0 ∗ outs c Y)
      ⊢ iprop((owesE c O ∗ comm c 0 (slotC m c 0) ∗ wPair m c 1 ∗ outs c (p0 m c) -∗ WP c (k ⟨⟩) Q)
        -∗ WP c (groupFirst c >>= k) Q) := by
  unfold groupFirst wPair outs
  simp only [bind_assoc]
  iintro ⟨#Hlev, HO, HC, ⟨HW0, HW1⟩, H0, H1, H2, H3, H4, H5, H6, H7⟩ Hk
  iapply (wp_stepFirst m c 0 0 0 0 2 _ (Y 0) hO) $$ [$Hlev $HO $HC $HW0 $H0]; iintro ⟨HO, HC, HW0, H0⟩
  iapply (wp_stepFirst m c 0 1 1 0 3 _ (Y 1) hO) $$ [$Hlev $HO $HC $HW1 $H1]; iintro ⟨HO, HC, HW1, H1⟩
  iapply (wp_stepFirst m c 0 2 0 0 4 _ (Y 2) hO) $$ [$Hlev $HO $HC $HW0 $H2]; iintro ⟨HO, HC, HW0, H2⟩
  iapply (wp_stepFirst m c 0 3 1 0 5 _ (Y 3) hO) $$ [$Hlev $HO $HC $HW1 $H3]; iintro ⟨HO, HC, HW1, H3⟩
  iapply (wp_stepFirst m c 0 4 0 0 6 _ (Y 4) hO) $$ [$Hlev $HO $HC $HW0 $H4]; iintro ⟨HO, HC, HW0, H4⟩
  iapply (wp_stepFirst m c 0 5 1 0 7 _ (Y 5) hO) $$ [$Hlev $HO $HC $HW1 $H5]; iintro ⟨HO, HC, HW1, H5⟩
  iapply (wp_stepFirst m c 0 6 0 1 0 _ (Y 6) hO) $$ [$Hlev $HO $HC $HW0 $H6]; iintro ⟨HO, HC, HW0, H6⟩
  iapply (wp_stepFirst m c 0 7 1 1 1 _ (Y 7) hO) $$ [$Hlev $HO $HC $HW1 $H7]; iintro ⟨HO, HC, HW1, H7⟩
  iapply Hk
  unfold p0
  iframe

/-- The product of slot `q`, added to the tiles. -/
theorem wp_groupMid (q q' : Fin 4) (X : Vec F S1024x1024 .bf16) (Y : Fin 8 → Vec F S1024x1024 .f32)
    {O : CellTallies nD τ sig Unit} (hO : Above 0 O) {k : PUnit → DProg F α} {Q : α → sProp 𝕄} :
    iprop(levAts L lv ∗ owesE c O ∗ comm c q X ∗ wPair m c q ∗ outs c Y)
      ⊢ iprop((owesE c O ∗ comm c q X ∗ wPair m c q' ∗ outs c (fun j => k0_pay9 X (stacked (wtile m c q j)) (Y j))
          -∗ WP c (k ⟨⟩) Q)
        -∗ WP c (groupMid c q q' >>= k) Q) := by
  unfold groupMid wPair outs
  simp only [bind_assoc]
  iintro ⟨#Hlev, HO, HC, ⟨HW0, HW1⟩, H0, H1, H2, H3, H4, H5, H6, H7⟩ Hk
  iapply (wp_stepNext m c q 0 0 q 2 X (Y 0) hO) $$ [$Hlev $HO $HC $HW0 $H0]; iintro ⟨HO, HC, HW0, H0⟩
  iapply (wp_stepNext m c q 1 1 q 3 X (Y 1) hO) $$ [$Hlev $HO $HC $HW1 $H1]; iintro ⟨HO, HC, HW1, H1⟩
  iapply (wp_stepNext m c q 2 0 q 4 X (Y 2) hO) $$ [$Hlev $HO $HC $HW0 $H2]; iintro ⟨HO, HC, HW0, H2⟩
  iapply (wp_stepNext m c q 3 1 q 5 X (Y 3) hO) $$ [$Hlev $HO $HC $HW1 $H3]; iintro ⟨HO, HC, HW1, H3⟩
  iapply (wp_stepNext m c q 4 0 q 6 X (Y 4) hO) $$ [$Hlev $HO $HC $HW0 $H4]; iintro ⟨HO, HC, HW0, H4⟩
  iapply (wp_stepNext m c q 5 1 q 7 X (Y 5) hO) $$ [$Hlev $HO $HC $HW1 $H5]; iintro ⟨HO, HC, HW1, H5⟩
  iapply (wp_stepNext m c q 6 0 q' 0 X (Y 6) hO) $$ [$Hlev $HO $HC $HW0 $H6]; iintro ⟨HO, HC, HW0, H6⟩
  iapply (wp_stepNext m c q 7 1 q' 1 X (Y 7) hO) $$ [$Hlev $HO $HC $HW1 $H7]; iintro ⟨HO, HC, HW1, H7⟩
  iapply Hk
  iframe

/-- The last product; it returns the block that holds the local maximum. -/
theorem wp_groupLast {O : CellTallies nD τ sig Unit} (hO : Above 0 O)
    {k : Vec F S8x128 .f32 → DProg F α} {Q : α → sProp 𝕄} :
    iprop(levAts L lv ∗ owesE c O ∗ comm c 2 (slotC m c 2) ∗ wPair m c 2 ∗ outs c (p2 m c))
      ⊢ iprop((owesE c O ∗ comm c 2 (slotC m c 2) ∗ (wIdle m c 0 ∗ wIdle m c 1) ∗ outs c (p3 m c) -∗ WP c (k (lblk m c)) Q)
        -∗ WP c (groupLast c >>= k) Q) := by
  unfold groupLast wPair outs
  simp only [bind_assoc, pure_bind]
  iintro ⟨#Hlev, HO, HC, ⟨HW0, HW1⟩, H0, H1, H2, H3, H4, H5, H6, H7⟩ Hk
  iapply (wp_stepNext m c 2 0 0 2 2 _ (p2 m c 0) hO) $$ [$Hlev $HO $HC $HW0 $H0]; iintro ⟨HO, HC, HW0, H0⟩
  iapply (wp_stepNext m c 2 1 1 2 3 _ (p2 m c 1) hO) $$ [$Hlev $HO $HC $HW1 $H1]; iintro ⟨HO, HC, HW1, H1⟩
  iapply (wp_stepNext m c 2 2 0 2 4 _ (p2 m c 2) hO) $$ [$Hlev $HO $HC $HW0 $H2]; iintro ⟨HO, HC, HW0, H2⟩
  iapply (wp_stepNext m c 2 3 1 2 5 _ (p2 m c 3) hO) $$ [$Hlev $HO $HC $HW1 $H3]; iintro ⟨HO, HC, HW1, H3⟩
  iapply (wp_stepNext m c 2 4 0 2 6 _ (p2 m c 4) hO) $$ [$Hlev $HO $HC $HW0 $H4]; iintro ⟨HO, HC, HW0, H4⟩
  iapply (wp_stepNext m c 2 5 1 2 7 _ (p2 m c 5) hO) $$ [$Hlev $HO $HC $HW1 $H5]; iintro ⟨HO, HC, HW1, H5⟩
  iapply (wp_stepAdd m c 2 6 0 _ (p2 m c 6) hO) $$ [$Hlev $HO $HC $HW0 $H6]; iintro ⟨HO, HC, HW0, H6⟩
  iapply (wp_stepAdd m c 2 7 1 _ (p2 m c 7) hO) $$ [$Hlev $HO $HC $HW1 $H7]; iintro ⟨HO, HC, HW1, H7⟩
  iapply Hk
  unfold p3
  iframe

/-! ## The rounding -/

/-- One tile rounded. -/
theorem wp_stepQ (g : Vec F S32x128 .f32) (j : Fin 8) (X : Vec F S1024x1024 .f32) {k : PUnit → DProg F α} {Q : α → sProp 𝕄} :
    otile c j X ⊢ iprop((otile c j (quant g X) -∗ WP c (k ⟨⟩) Q) -∗ WP c (stepQ g j >>= k) Q) := by
  unfold stepQ
  simp only [bind_assoc]
  iintro H Hk
  iapply (wp_loadO c j X) $$ H; iintro H
  iapply (wp_loadO c j X) $$ H; iintro H
  iapply (wp_storeO c j X) $$ H; iintro H
  iapply Hk
  iexact H

/-- All eight tiles rounded. -/
theorem wp_quantAll (g : Vec F S32x128 .f32) (X : Fin 8 → Vec F S1024x1024 .f32) {k : PUnit → DProg F α} {Q : α → sProp 𝕄} :
    outs c X ⊢ iprop((outs c (fun j => quant g (X j)) -∗ WP c (k ⟨⟩) Q)
      -∗ WP c (stepQ g 0 >>= fun _ => stepQ g 1 >>= fun _ => stepQ g 2 >>= fun _ => stepQ g 3 >>= fun _ =>
          stepQ g 4 >>= fun _ => stepQ g 5 >>= fun _ => stepQ g 6 >>= fun _ => stepQ g 7 >>= k) Q) := by
  unfold outs
  iintro ⟨H0, H1, H2, H3, H4, H5, H6, H7⟩ Hk
  iapply (wp_stepQ c g 0 (X 0)) $$ H0; iintro H0
  iapply (wp_stepQ c g 1 (X 1)) $$ H1; iintro H1
  iapply (wp_stepQ c g 2 (X 2)) $$ H2; iintro H2
  iapply (wp_stepQ c g 3 (X 3)) $$ H3; iintro H3
  iapply (wp_stepQ c g 4 (X 4)) $$ H4; iintro H4
  iapply (wp_stepQ c g 5 (X 5)) $$ H5; iintro H5
  iapply (wp_stepQ c g 6 (X 6)) $$ H6; iintro H6
  iapply (wp_stepQ c g 7 (X 7)) $$ H7; iintro H7
  iapply Hk
  iframe

end Cert.KernelIdeal.Run
-- ==== Proof.Blocks.lean ====
/- The buffers of a device as their blocks: the row blocks of `x`, the slots of the gathered row blocks, the
   two weight buffers, the blocks of maxima, and the column tiles of the result. -/
module

public import proofs.«01_k».proof.Proof.Groups
public import Idealize.ShloMosaic.Lib.MemrefSat

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## The rectangles are disjoint and cover -/

/-- Different row blocks are disjoint; -/
theorem crect_disj (t t' : Fin 4) (h : t ≠ t') : Disjoint (crect t).set (crect t').set := by
  rw [Finset.disjoint_left]
  intro i hi hi'
  have h1 := Rect.mem_set_unit.mp hi 0
  have h2 := Rect.mem_set_unit.mp hi' 0
  simp only [Matrix.cons_val_zero] at h1 h2
  exact h (Fin.ext (by omega))
/-- the four cover the array. -/
theorem crect_cov : (Finset.univ : Finset (Fin 4)).biUnion (fun t => (crect t).set) = Finset.univ := by
  refine Finset.eq_univ_iff_forall.mpr fun i => Finset.mem_biUnion.mpr ?_
  have h0 : (i 0).val < 4096 := (i 0).isLt
  have h1 : (i 1).val < 1024 := (i 1).isLt
  refine ⟨⟨(i 0).val / 1024, by omega⟩, Finset.mem_univ _, Rect.mem_set_unit.mpr fun a => ?_⟩
  fin_cases a
  · show 1024 * ((i 0).val / 1024) ≤ (i 0).val ∧ (i 0).val < 1024 * ((i 0).val / 1024) + 1024; omega
  · show 0 ≤ (i 1).val ∧ (i 1).val < 0 + 1024; omega

/-- Different blocks of maxima are disjoint; -/
theorem arect_disj (t t' : Fin 4) (h : t ≠ t') : Disjoint (arect t).set (arect t').set := by
  rw [Finset.disjoint_left]
  intro i hi hi'
  have h1 := Rect.mem_set_unit.mp hi 0
  have h2 := Rect.mem_set_unit.mp hi' 0
  simp only [Matrix.cons_val_zero] at h1 h2
  exact h (Fin.ext (by omega))
/-- the four cover the array. -/
theorem arect_cov : (Finset.univ : Finset (Fin 4)).biUnion (fun t => (arect t).set) = Finset.univ := by
  refine Finset.eq_univ_iff_forall.mpr fun i => Finset.mem_biUnion.mpr ?_
  have h0 : (i 0).val < 32 := (i 0).isLt
  have h1 : (i 1).val < 128 := (i 1).isLt
  refine ⟨⟨(i 0).val / 8, by omega⟩, Finset.mem_univ _, Rect.mem_set_unit.mpr fun a => ?_⟩
  fin_cases a
  · show 8 * ((i 0).val / 8) ≤ (i 0).val ∧ (i 0).val < 8 * ((i 0).val / 8) + 8; omega
  · show 0 ≤ (i 1).val ∧ (i 1).val < 0 + 128; omega

/-- The two weight buffers are disjoint; -/
theorem brect_disj (t t' : Fin 2) (h : t ≠ t') : Disjoint (brect t).set (brect t').set := by
  rw [Finset.disjoint_left]
  intro i hi hi'
  have h1 := Rect.mem_set_unit.mp hi 0
  have h2 := Rect.mem_set_unit.mp hi' 0
  simp only [Matrix.cons_val_zero] at h1 h2
  exact h (Fin.ext (by omega))
/-- they cover the double buffer. -/
theorem brect_cov : (Finset.univ : Finset (Fin 2)).biUnion (fun t => (brect t).set) = Finset.univ := by
  refine Finset.eq_univ_iff_forall.mpr fun i => Finset.mem_biUnion.mpr ?_
  have h0 : (i 0).val < 2 := (i 0).isLt
  have h1 : (i 1).val < 1024 := (i 1).isLt
  have h2 : (i 2).val < 1024 := (i 2).isLt
  refine ⟨⟨(i 0).val, h0⟩, Finset.mem_univ _, Rect.mem_set_unit.mpr fun a => ?_⟩
  fin_cases a
  · show (i 0).val ≤ (i 0).val ∧ (i 0).val < (i 0).val + 1; omega
  · show 0 ≤ (i 1).val ∧ (i 1).val < 0 + 1024; omega
  · show 0 ≤ (i 2).val ∧ (i 2).val < 0 + 1024; omega

/-- Different column tiles are disjoint; -/
theorem orect_disj (t t' : Fin 8) (h : t ≠ t') : Disjoint (orect t).set (orect t').set := by
  rw [Finset.disjoint_left]
  intro i hi hi'
  have h1 := Rect.mem_set_unit.mp hi 1
  have h2 := Rect.mem_set_unit.mp hi' 1
  simp only [Matrix.cons_val_one, Matrix.cons_val_zero, Matrix.cons_val_fin_one] at h1 h2
  change 1024 * t.val ≤ (i 1).val ∧ (i 1).val < 1024 * t.val + 1024 at h1
  change 1024 * t'.val ≤ (i 1).val ∧ (i 1).val < 1024 * t'.val + 1024 at h2
  exact h (Fin.ext (by omega))
/-- the eight cover the result. -/
theorem orect_cov : (Finset.univ : Finset (Fin 8)).biUnion (fun t => (orect t).set) = Finset.univ := by
  refine Finset.eq_univ_iff_forall.mpr fun i => Finset.mem_biUnion.mpr ?_
  have h0 : (i 0).val < 1024 := (i 0).isLt
  have h1 : (i 1).val < 8192 := (i 1).isLt
  refine ⟨⟨(i 1).val / 1024, by omega⟩, Finset.mem_univ _, Rect.mem_set_unit.mpr fun a => ?_⟩
  fin_cases a
  · show 0 ≤ (i 0).val ∧ (i 0).val < 0 + 1024; omega
  · show 1024 * ((i 1).val / 1024) ≤ (i 1).val ∧ (i 1).val < 1024 * ((i 1).val / 1024) + 1024; omega

/-! ## A buffer with contents left open -/

section Any
variable (c : Dev nD) {sp : CoreSpace} {s : Shape} {e : EltTy} (M : Memref sig .tc sp s e)

/-- A view owned whole, its contents left open. -/
def anyOf : sProp 𝕄 := iprop(∃ X, owns (c : Thread nD τ) M fullShare X)

variable {T : Type} [Fintype T] [DecidableEq T] (r : T → Rect s) (hr : ∀ t a, (r t).stride a = 1)
  (hd : ∀ t t', t ≠ t' → Disjoint (r t).set (r t').set)
  (hcov : (Finset.univ : Finset T).biUnion (fun t => (r t).set) = Finset.univ)
include hd hcov

/-- A view owned whole is its blocks owned, -/
theorem any_split : (anyOf c M : sProp 𝕄) ⊢ bigSep Finset.univ fun t => anyOf c (M.slice (r t) (hr t)) := by
  unfold anyOf
  iintro ⟨%X, H⟩
  iapply ((owns_rects (c : Thread nD τ) M fullShare r hr hd hcov X).trans (bigSep_mono fun t _ =>
    (show owns (c : Thread nD τ) (M.slice (r t) (hr t)) fullShare (fun j => X ((r t).emb j))
        ⊢ (iprop(∃ Y, owns (c : Thread nD τ) (M.slice (r t) (hr t)) fullShare Y) : sProp 𝕄) from by
      iintro H; iexists _; iexact H)))
  iexact H

/-- and back. -/
theorem any_join : bigSep Finset.univ (fun t => anyOf c (M.slice (r t) (hr t))) ⊢ (anyOf c M : sProp 𝕄) := by
  unfold anyOf
  refine (BI.bigSep_exists_pi Finset.univ (fun t X => owns (c : Thread nD τ) (M.slice (r t) (hr t)) fullShare X)).trans ?_
  iintro ⟨%Xs, H⟩
  have hg (t : T) : (fun j => Rect.glue r hcov Xs ((r t).emb j)) = Xs t := funext fun y => Rect.glue_emb r hcov hd Xs t y
  iexists Rect.glue r hcov Xs
  iapply (owns_of_rects (c : Thread nD τ) M fullShare r hr hd hcov (Rect.glue r hcov Xs))
  simp only [hg]
  iexact H

end Any

variable (c : Dev nD)

/-- The buffer of gathered row blocks, -/
def commAny : sProp 𝕄 := iprop(∃ f : Buf (Elt F) ((c : Thread nD τ).loc cc0_scratch0), ((c : Thread nD τ).loc cc0_scratch0) ↦{fullShare} f)
/-- the double buffer of weight tiles, -/
def wAny : sProp 𝕄 := iprop(∃ f : Buf (Elt F) ((c : Thread nD τ).loc cc0_scratch1), ((c : Thread nD τ).loc cc0_scratch1) ↦{fullShare} f)
/-- and the gathered maxima, their contents left open. -/
def amaxAny : sProp 𝕄 := iprop(∃ f : Buf (Elt F) ((c : Thread nD τ).loc cc0_scratch2), ((c : Thread nD τ).loc cc0_scratch2) ↦{fullShare} f)

/-- The buffer of row blocks as a view owned whole. -/
theorem commAny_eq : (commAny c : sProp 𝕄) = anyOf c commB := by
  unfold commAny anyOf
  simp only [owns_whole]
  rfl
/-- The double buffer as a view owned whole. -/
theorem wAny_eq : (wAny c : sProp 𝕄) = anyOf c wB := by
  unfold wAny anyOf
  simp only [owns_whole]
  rfl
/-- The gathered maxima as a view owned whole. -/
theorem amaxAny_eq : (amaxAny c : sProp 𝕄) = anyOf c amaxB := by
  unfold amaxAny anyOf
  simp only [owns_whole]
  rfl

/-- The four slots of the gathered row blocks. -/
theorem comm_split : (commAny c : sProp 𝕄) ⊢ iprop((∃ X, comm c 0 X) ∗ (∃ X, comm c 1 X) ∗ (∃ X, comm c 2 X) ∗ (∃ X, comm c 3 X)) := by
  rw [commAny_eq]
  refine (any_split c commB crect (fun _ _ => rfl) crect_disj crect_cov).trans ?_
  rw [bigSep_univ_eq_bigSepL [0, 1, 2, 3] (by decide) (by decide)]
  exact .rfl
/-- The four slots joined again. -/
theorem comm_join : iprop((∃ X, comm c 0 X) ∗ (∃ X, comm c 1 X) ∗ (∃ X, comm c 2 X) ∗ (∃ X, comm c 3 X)) ⊢ (commAny c : sProp 𝕄) := by
  rw [commAny_eq]
  refine .trans ?_ (any_join c commB crect (fun _ _ => rfl) crect_disj crect_cov)
  rw [bigSep_univ_eq_bigSepL [0, 1, 2, 3] (by decide) (by decide)]
  exact .rfl

/-- The four blocks of maxima. -/
theorem amax_split : (amaxAny c : sProp 𝕄) ⊢ iprop((∃ X, amx c 0 fullShare X) ∗ (∃ X, amx c 1 fullShare X) ∗ (∃ X, amx c 2 fullShare X) ∗ (∃ X, amx c 3 fullShare X)) := by
  rw [amaxAny_eq]
  refine (any_split c amaxB arect (fun _ _ => rfl) arect_disj arect_cov).trans ?_
  rw [bigSep_univ_eq_bigSepL [0, 1, 2, 3] (by decide) (by decide)]
  exact .rfl
/-- The four blocks of maxima joined again. -/
theorem amax_join : iprop((∃ X, amx c 0 fullShare X) ∗ (∃ X, amx c 1 fullShare X) ∗ (∃ X, amx c 2 fullShare X) ∗ (∃ X, amx c 3 fullShare X)) ⊢ (amaxAny c : sProp 𝕄) := by
  rw [amaxAny_eq]
  refine .trans ?_ (any_join c amaxB arect (fun _ _ => rfl) arect_disj arect_cov)
  rw [bigSep_univ_eq_bigSepL [0, 1, 2, 3] (by decide) (by decide)]
  exact .rfl

/-- A weight buffer with its contents left open, as a matrix or as a slice of the double buffer. -/
theorem wbuf_any (s : Fin 2) : (anyOf c (wB.slice (brect s) (fun _ => rfl)) : sProp 𝕄) ⊢ iprop(∃ X, wbuf c s X) := by
  unfold anyOf
  iintro ⟨%Y, H⟩
  iexists fun y => Y (Shape.reshapeEquiv squeezes_S1x1024x1024_S1024x1024.numel_eq y)
  rw [wbuf_eq]
  have h : stacked (fun y => Y (Shape.reshapeEquiv squeezes_S1x1024x1024_S1024x1024.numel_eq y)) = Y :=
    funext fun y => congrArg Y (Equiv.apply_symm_apply _ y)
  rw [h]
  iexact H
/-- The same back. -/
theorem any_wbuf (s : Fin 2) : iprop(∃ X, wbuf c s X) ⊢ (anyOf c (wB.slice (brect s) (fun _ => rfl)) : sProp 𝕄) := by
  unfold anyOf
  iintro ⟨%X, H⟩
  iexists stacked X
  iapply (Entails.of_eq (wbuf_eq c s X)); iexact H
/-- The two weight buffers. -/
theorem w_split : (wAny c : sProp 𝕄) ⊢ iprop((∃ X, wbuf c 0 X) ∗ (∃ X, wbuf c 1 X)) := by
  rw [wAny_eq]
  refine (any_split c wB brect (fun _ _ => rfl) brect_disj brect_cov).trans ?_
  rw [bigSep_univ_eq_bigSepL [0, 1] (by decide) (by decide)]
  exact BI.sep_mono (wbuf_any c 0) (wbuf_any c 1)
/-- The two weight buffers joined again. -/
theorem w_join : iprop((∃ X, wbuf c 0 X) ∗ (∃ X, wbuf c 1 X)) ⊢ (wAny c : sProp 𝕄) := by
  rw [wAny_eq]
  refine .trans ?_ (any_join c wB brect (fun _ _ => rfl) brect_disj brect_cov)
  rw [bigSep_univ_eq_bigSepL [0, 1] (by decide) (by decide)]
  exact BI.sep_mono (any_wbuf c 0) (any_wbuf c 1)

/-! ## The result -/

/-- The column tiles, written out. -/
theorem outs_list (X : Fin 8 → Vec F S1024x1024 .f32) : (bigSep Finset.univ fun j => otile c j (X j)) = (outs c X : sProp 𝕄) := by
  rw [bigSep_univ_eq_bigSepL [0, 1, 2, 3, 4, 5, 6, 7] (by decide) (by decide)]
  rfl
/-- The result's buffer as its eight column tiles, -/
theorem outs_split (f : Vec F S1024x8192 .f32) :
    ((c : Thread nD τ).loc cc0_stg0_0 ↦{fullShare} f : sProp 𝕄) ⊢ outs c (fun j => fun y : S1024x1024.Idx => f ((orect j).emb y)) := by
  rw [← owns_whole (c : Thread nD τ) cc0_stg0_0 fullShare f, ← outs_list]
  exact owns_rects (c : Thread nD τ) outB fullShare orect (fun _ _ => rfl) orect_disj orect_cov f
/-- and back. -/
theorem outs_join (f : Vec F S1024x8192 .f32) :
    outs c (fun j => fun y : S1024x1024.Idx => f ((orect j).emb y)) ⊢ ((c : Thread nD τ).loc cc0_stg0_0 ↦{fullShare} f : sProp 𝕄) := by
  rw [← owns_whole (c : Thread nD τ) cc0_stg0_0 fullShare f, ← outs_list]
  exact owns_of_rects (c : Thread nD τ) outB fullShare orect (fun _ _ => rfl) orect_disj orect_cov f

/-! ## The arguments -/

section Args
variable (m : (ℓ : Loc nD τ sig) → Buf (Elt F) ℓ)

/-- Row block `r` of device `c`'s columns of `x`. -/
abbrev xpart (r : Fin 4) : sProp 𝕄 := owns (c : Thread nD τ) (xrow r) fullShare ((xrow r).view.read (Elt F) (mx m c))

/-- A row block of `x` by the offsets where it starts. -/
theorem xpart_of (r : Fin 4) {o : Fin 2 → ℕ} (h : o = ![1024 * r.val, 0]) (hi : ∀ a, o a + S1024x1024.size a ≤ S4096x1024.size a) :
    (owns (c : Thread nD τ) (xArg.slice (Rect.unit (s := S4096x1024) o S1024x1024.size hi) (fun _ => rfl)) fullShare
        ((xArg.slice (Rect.unit (s := S4096x1024) o S1024x1024.size hi) (fun _ => rfl)).view.read (Elt F) (mx m c)) : sProp 𝕄)
      = xpart c m r := by
  subst h; rfl
/-- The row block that stays is the one of the device's own index, -/
theorem xown_eq : (owns (c : Thread nD τ) (xown c) fullShare (kept m c) : sProp 𝕄) = xpart c m (sh c 0) :=
  xpart_of c m (sh c 0) (by rw [k0_off1_eq, sh_zero]) _
/-- Where the row block that goes to the device `i + 1` further starts. -/
theorem xsend_off : ∀ (c : Dev nD) (i : Fin 3), k0_off2 c (BitVec.ofNat 32 (1 + i.val)) = ![1024 * (sh c (i.val + 1)).val, 0] := by
  decide
/-- and a row block is sent to the device of its index. -/
theorem xsend_eq (i : Fin 3) : (xsd m c i : sProp 𝕄) = xpart c m (sh c (i.val + 1)) :=
  xpart_of c m (sh c (i.val + 1)) (xsend_off c i) _
/-- Going round the ring from any device meets every device, -/
theorem ring_mem : ∀ c : Dev nD, (Finset.univ : Finset (Fin 4)) = [sh c 0, sh c 1, sh c 2, sh c 3].toFinset := by decide
/-- and none twice. -/
theorem ring_nodup : ∀ c : Dev nD, ([sh c 0, sh c 1, sh c 2, sh c 3] : List (Fin 4)).Nodup := by decide

/-- The columns of `x`: the row block that stays and the three that are sent. -/
theorem x_eq : ((c : Thread nD τ).loc main_arg0 ↦{fullShare} mx m c : sProp 𝕄)
    = iprop(owns (c : Thread nD τ) (xown c) fullShare (kept m c) ∗ xsd m c 0 ∗ xsd m c 1 ∗ xsd m c 2) := by
  have h := pointsTo_rects (U := UU) (Ix := Unit) (Name := ℕ) (Lvl := ℕ) (c : Thread nD τ) xArg fullShare crect (fun _ _ => rfl) crect_disj crect_cov (mx m c)
  refine Eq.trans ?_ (h.trans ?_)
  · exact congrArg (fun S => ((c : Thread nD τ).loc main_arg0 ↦[S]{fullShare} mx m c : sProp 𝕄))
      (show Finset.univ = (Memref.whole main_arg0).view.set from (View.set_whole _).symm)
  · rw [xown_eq, xsend_eq, xsend_eq, xsend_eq, bigSep_univ_eq_bigSepL [sh c 0, sh c 1, sh c 2, sh c 3] (ring_mem c) (ring_nodup c)]
    rfl

/-- The weights, as a share for each weight buffer. -/
theorem warg_split : ((c : Thread nD τ).loc main_arg1 ↦{fullShare} mw m c : sProp 𝕄) ⊣⊢ iprop(wAll m c 0 ∗ wAll m c 1) :=
  pointsTo_share (PosShare.mem_left_op_right fullShare)

end Args

/-! ## The gathered maxima at a share -/

/-- A block of maxima as four shares. -/
theorem amx_shares (r : Fin 4) (X : Vec F S8x128 .f32) :
    (amx c r fullShare X : sProp 𝕄)
      ⊣⊢ iprop(amx c r (ashare 0) X ∗ amx c r (ashare 1) X ∗ amx c r (ashare 2) X ∗ amx c r (ashare 3) X) := by
  have h1 := owns_halves (U := UU) (Ix := Unit) (Name := ℕ) (Lvl := ℕ) (c : Thread nD τ) (ablk r) fullShare X
  have h2 := owns_halves (U := UU) (Ix := Unit) (Name := ℕ) (Lvl := ℕ) (c : Thread nD τ) (ablk r) (fullShare : PosShare TreeShare).right X
  have h3 := owns_halves (U := UU) (Ix := Unit) (Name := ℕ) (Lvl := ℕ) (c : Thread nD τ) (ablk r) (fullShare : PosShare TreeShare).right.right X
  constructor
  · exact h1.1.trans (sep_mono_right (h2.1.trans (sep_mono_right h3.1)))
  · exact (sep_mono_right ((sep_mono_right h3.2).trans h2.2)).trans h1.2

section Gath
variable (m : (ℓ : Loc nD τ sig) → Buf (Elt F) ℓ)

/-- The four blocks of the gathered maxima at one share: the buffer at that share. -/
theorem gath_eq (q : PosShare TreeShare) :
    iprop(amx c 0 q (lblk m c) ∗ amx c 1 q (lblk m (sh c 1)) ∗ amx c 2 q (lblk m (sh c 2)) ∗ amx c 3 q (lblk m (sh c 3)))
      ⊣⊢ (owns (c : Thread nD τ) amaxB q (gath m c) : sProp 𝕄) := by
  have hl : (bigSep Finset.univ fun r : Fin 4 => (owns (c : Thread nD τ) (ablk r) q (fun y : S8x128.Idx => gath m c ((arect r).emb y)) : sProp 𝕄))
      = iprop(amx c 0 q (lblk m c) ∗ amx c 1 q (lblk m (sh c 1)) ∗ amx c 2 q (lblk m (sh c 2)) ∗ amx c 3 q (lblk m (sh c 3))) := by
    rw [bigSep_univ_eq_bigSepL [0, 1, 2, 3] (by decide) (by decide)]
    simp only [bigSepL_cons_cons, bigSepL_singleton, gath_emb]
    show iprop(amx c 0 q (lblk m (sh c 0)) ∗ _) = _
    rw [sh_zero]; rfl
  rw [← hl]
  exact ⟨owns_of_rects (c : Thread nD τ) amaxB q arect (fun _ _ => rfl) arect_disj arect_cov (gath m c),
    owns_rects (c : Thread nD τ) amaxB q arect (fun _ _ => rfl) arect_disj arect_cov (gath m c)⟩

end Gath

end Cert.KernelIdeal.Run
-- ==== Proof.Exchange.lean ====
/- The device's own copy of its row block, and the exchange of the local maxima. -/
module

public import proofs.«01_k».proof.Proof.Comm
public import proofs.«01_k».proof.Proof.Blocks

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} (m : (ℓ : Loc nD τ sig) → Buf (Elt F) ℓ) (c : Dev nD)

/-! ## The own row block -/

/-- The row block that stays, where it is in `x`. -/
abbrev xkept : sProp 𝕄 := owns (c : Thread nD τ) (xown c) fullShare (kept m c)
/-- Its copy into slot 0 under way. -/
def xBusy : sProp 𝕄 :=
  Transfers.Flight EC (c : Thread nD τ) (.dma cc0_scratch3.sem) () NX iprop(comm c 0 (slotC m c 0) ∗ xkept m c)

/-- The start of that copy, -/
theorem wp_startX {k : PUnit → DProg F α} {Q : α → sProp 𝕄} :
    iprop(xkept m c ∗ (∃ X, comm c 0 X) ∗ semVal ((c : Thread nD τ), SemLoc.dma cc0_scratch3.sem) 0)
      ⊢ iprop((xBusy m c -∗ WP c (k ⟨⟩) Q) -∗ WP c (startX c >>= k) Q) := by
  unfold startX xBusy
  simp only [Prog.lift, Prog.bind_op, Prog.bind_ret]
  conv_lhs => unfold xkept comm owns
  iintro ⟨⟨%fs, %hfs, Hs⟩, ⟨%X, %f, %hf, Hb⟩, Hv⟩ Hk
  iapply (Transfers.wp_dmaLocal EC 𝒱₀ (c : Thread nD τ) none (src := xown c) (dst := cslot 0) (sm := .dma cc0_scratch3.sem)
    (fs := fs) (q := fullShare) (Sd := (cslot 0).view.set) (fd := f) () NX rfl NX_pos (Finset.Subset.refl _)) $$ [Hs Hb Hv]
  · isplitl [Hs]; · iexact Hs
    isplitl [Hb] <;> iassumption
  iintro HF
  iapply Hk
  iapply (Transfers.Flight_mono EC (c : Thread nD τ) ?_) $$ HF
  iintro ⟨H, Hs⟩
  isplitl [H]
  · unfold comm owns
    iexists _
    isplitr
    rotate_left
    · iexact H
    · ipureintro; rw [hfs]; exact View.read_write_univ _ _
  · unfold xkept owns
    iexists fs
    isplitr; · ipureintro; exact hfs
    iexact Hs

/-- and the wait for it. -/
theorem wp_waitX {O : CellTallies nD τ sig Unit} (hO : Above 0 O) {k : PUnit → DProg F α} {Q : α → sProp 𝕄} :
    iprop(levAts L lv ∗ xBusy m c ∗ owesE c O)
      ⊢ iprop((comm c 0 (slotC m c 0) ∗ xkept m c ∗ semVal ((c : Thread nD τ), SemLoc.dma cc0_scratch3.sem) 0 ∗ owesE c O -∗ WP c (k ⟨⟩) Q)
        -∗ WP c (waitX c >>= k) Q) := by
  unfold waitX xBusy owesE
  simp only [Prog.lift, Prog.bind_op, Prog.bind_ret]
  iintro ⟨Hlev, HF, ⟨%W, HO⟩⟩ Hk
  iapply (Transfers.wp_waitLocalO EC 𝒱₀ (c : Thread nD τ) none (srcw := xown c) (dstw := cslot 0)
    (hsrc := (Memref.isWhole_whole main_arg0).wordExact_slice rfl _ (k0_off1_wordsbf16 c))
    (hdst := (Memref.isWhole_whole cc0_scratch0).wordExact_slice rfl _ (words_c 0)) () (N := NX) rfl) $$ [HF HO Hlev]
  · isplitl [HF]; · iexact HF
    isplitl [HO]; · iexact HO
    iapply (mayWait c _ 0 (by rw [kindOf_none (by decide +kernel)]; exact Nat.le_refl 0) hO); iexact Hlev
  iintro ⟨⟨Hb, Hs⟩, Hv, HO⟩
  iapply Hk
  isplitl [Hb]; · iexact Hb
  isplitl [Hs]; · iexact Hs
  isplitl [Hv]; · iexact Hv
  iexists _; iexact HO

/-! ## The exchange of the maxima -/

/-- The own block of maxima read, -/
theorem wp_loadA (X : Vec F S8x128 .f32) {k : Vec F S8x128 .f32 → DProg F α} {Q : α → sProp 𝕄} :
    amx c 0 fullShare X ⊢ iprop((amx c 0 fullShare X -∗ WP c (k X) Q)
      -∗ WP c ((Prog.lift (.load amaxB (arect 0).toLoadRect (View.loadsAt_vmem h_S8x128)) : DProg F (Vec F S8x128 .f32)) >>= k) Q) :=
  wp_load_slice c amaxB (arect 0) (fun _ => rfl)
/-- and written. -/
theorem wp_storeA (X w : Vec F S8x128 .f32) {k : PUnit → DProg F α} {Q : α → sProp 𝕄} :
    amx c 0 fullShare X ⊢ iprop((amx c 0 fullShare w -∗ WP c (k ⟨⟩) Q)
      -∗ WP c ((Prog.lift (.store amaxB (arect 0) w Finset.univ (View.stores_vmem_bits_univ h_S8x128 rfl) (.inl rfl)) : DProg F PUnit) >>= k) Q) :=
  wp_store_slice c amaxB (arect 0) (fun _ => rfl)

/-- All the gathered maxima read at once. -/
theorem wp_loadAll (q : PosShare TreeShare) (X : Vec F S32x128 .f32) {k : Vec F S32x128 .f32 → DProg F α} {Q : α → sProp 𝕄} :
    owns (c : Thread nD τ) amaxB q X
      ⊢ iprop((owns (c : Thread nD τ) amaxB q X -∗ WP c (k X) Q)
        -∗ WP c ((Prog.lift (.load amaxB (Rect.unit (s := S32x128) ![0, 0] S32x128.size inb_S32x128_S32x128_0_0).toLoadRect (View.loadsAt_vmem h_S32x128)) : DProg F _) >>= k) Q) := by
  simp only [Prog.lift, Prog.bind_op, Prog.bind_ret]
  rw [owns_whole (c : Thread nD τ) cc0_scratch2 q X]
  iintro H Hk
  iapply (wp_load 𝒱₀ (c : Thread nD τ) none Set.univ (m := amaxB) (Finset.subset_univ _)) $$ H
  iintro H
  have hz : (![0, 0] : Fin 2 → ℕ) = fun _ => 0 := by decide
  rw [show amaxB.view.readAt (Elt F) (Rect.unit (s := S32x128) ![0, 0] S32x128.size inb_S32x128_S32x128_0_0).toLoadRect X = X from
    Memref.readAt_unit_zero (Elt F) cc0_scratch2 hz _ X]
  iapply Hk
  iexact H

variable (K : Dev nD × Kind' → ℕ)

/-- The wait for the local maximum of another device. -/
theorem wp_recvA (i : Fin 3) {O : CellTallies nD τ sig Unit} (hO : Above 3 O) {k : PUnit → DProg F α} {Q : α → sProp 𝕄} :
    iprop(known m K ∗ levAts L lv ∗ owesE c O ∗ cred (tallyAt (arcC c i) () NA) ∗ atPos ER (arcC c i) 0 ∅ 0)
      ⊢ iprop((owesE c O ∗ atPos ER (arcC c i) 1 ∅ 0 ∗ amx c i.succ fullShare (lblk m (sh c (i.val + 1))) -∗ WP c (k ⟨⟩) Q)
        -∗ WP c (recvA i >>= k) Q) := by
  unfold recvA
  exact wp_waitCopy m K c (3, i) (sem := sem4 cc0_scratch8 i.succ) (src := ablk 0) (dst := ablk i.succ) rfl (by simp only [units, NX, NA, View.dmaCredit]) 3 (Nat.le_refl _) hO
/-- The wait until the own local maximum has gone out. -/
theorem wp_sentA (i : Fin 3) {O : CellTallies nD τ sig Unit} (hO : Above 0 O) {k : PUnit → DProg F α} {Q : α → sProp 𝕄} :
    iprop(known m K ∗ levAts L lv ∗ owesE c O ∗ cred (tallyAt (asnC c i) () NA) ∗ atPos ER (asnC c i) 0 ∅ 0)
      ⊢ iprop((owesE c O ∗ atPos ER (asnC c i) 1 ∅ 0 ∗ amx c 0 (ashare i.castSucc) (lblk m c) -∗ WP c (k ⟨⟩) Q)
        -∗ WP c (sentA i >>= k) Q) := by
  unfold sentA
  exact wp_waitCopy m K c (2, i) (sem := sem4 cc0_scratch7 i.succ) (src := ablk (slot i)) (dst := ablk 0) rfl (by simp only [units, NX, NA, View.dmaCredit]) 0 (Nat.le_refl _) hO
/-- The wait for the row block of another device. -/
theorem wp_recvX (i : Fin 3) {O : CellTallies nD τ sig Unit} (hO : Above 2 O) {k : PUnit → DProg F α} {Q : α → sProp 𝕄} :
    iprop(known m K ∗ levAts L lv ∗ owesE c O ∗ cred (tallyAt (rcvC c i) () NX) ∗ atPos ER (rcvC c i) 0 ∅ 0)
      ⊢ iprop((owesE c O ∗ atPos ER (rcvC c i) 1 ∅ 0 ∗ comm c i.succ (slotC m c i.succ) -∗ WP c (k ⟨⟩) Q)
        -∗ WP c (recvX i >>= k) Q) := by
  unfold recvX
  exact wp_waitCopy m K c (1, i) (sem := sem4 cc0_scratch6 i.succ) (src := xrow 0) (dst := cslot i.succ) rfl (by simp only [units, NX, NA, View.dmaCredit]) 2 (Nat.le_refl _) hO
/-- The wait until an own row block has gone out. -/
theorem wp_sentX (i : Fin 3) {O : CellTallies nD τ sig Unit} (hO : Above 0 O) {k : PUnit → DProg F α} {Q : α → sProp 𝕄} :
    iprop(known m K ∗ levAts L lv ∗ owesE c O ∗ cred (tallyAt (sndC c i) () NX) ∗ atPos ER (sndC c i) 0 ∅ 0)
      ⊢ iprop((owesE c O ∗ atPos ER (sndC c i) 1 ∅ 0 ∗ xsd m c i -∗ WP c (k ⟨⟩) Q)
        -∗ WP c (sentX c i >>= k) Q) := by
  unfold sentX
  exact wp_waitCopy m K c (0, i) (sem := sem4 cc0_scratch5 i.succ) (src := cslot (slot i)) (dst := xsend c i) rfl (by simp only [units, NX, NA, View.dmaCredit]) 0 (Nat.le_refl _) hO

/-- Three of something, one for each distance. -/
def three (Φ : Fin 3 → sProp 𝕄) : sProp 𝕄 := iprop(Φ 0 ∗ Φ 1 ∗ Φ 2)

/-- What the exchange starts from: room for the maxima here and on the other devices, and the copies' ghost state. -/
def exPre : sProp 𝕄 :=
  iprop((∃ X, amx c 0 fullShare X)
    ∗ three (fun i => iprop(∃ X, amx (sh c (i.val + 1)) (slot i) fullShare X))
    ∗ three (fun i => dutyTok ER (asnC c i) 0 0) ∗ three (fun i => dutyTok ER (arcC (sh c (i.val + 1)) i.rev) 0 0)
    ∗ three (fun i => cred (tallyAt (arcC c i) () NA)) ∗ three (fun i => atPos ER (arcC c i) 0 ∅ 0))
/-- What it leaves: a share of the own block, the blocks received, and the copies out not yet waited for. -/
def exPost : sProp 𝕄 :=
  iprop(amx c 0 (ashare 3) (lblk m c) ∗ three (fun i => amx c i.succ fullShare (lblk m (sh c (i.val + 1))))
    ∗ three (fun i => cred (tallyAt (asnC c i) () NA)) ∗ three (fun i => atPos ER (arcC c i) 1 ∅ 0))

/-- The exchange returns the gathered maxima. -/
theorem wp_exchange {k : Vec F S32x128 .f32 → DProg F α} {Q : α → sProp 𝕄} :
    iprop(known m K ∗ levAts L lv ∗ owesE c (OA c) ∗ exPre c)
      ⊢ iprop((owesE c 0 ∗ exPost m c -∗ WP c (k (gath m c)) Q) -∗ WP c (exchange c (lblk m c) >>= k) Q) := by
  unfold exchange exPre exPost three OA
  simp only [bind_assoc]
  iintro ⟨#HK, #Hlev, HO, ⟨%X, H0⟩, ⟨Hd0, Hd1, Hd2⟩, ⟨Hs0, Hs1, Hs2⟩, ⟨Hr0, Hr1, Hr2⟩, ⟨Hc0, Hc1, Hc2⟩, ⟨Hp0, Hp1, Hp2⟩⟩ Hk
  iapply (wp_loadA c X) $$ H0; iintro H0
  iapply (wp_storeA c X (lblk m c)) $$ H0; iintro H0
  ihave H0 := (amx_shares c 0 (lblk m c)).1 $$ H0
  icases H0 with ⟨Ha0, Ha1, Ha2, Ha3⟩
  iapply (wp_sendA m K c 0 (owA c 2 + owA c 1)) $$ [$HK $HO $Ha0 $Hd0 $Hs0 $Hr0]; iintro ⟨HO, Hz0⟩
  iapply (wp_sendA m K c 1 (owA c 2)) $$ [$HK $HO $Ha1 $Hd1 $Hs1 $Hr1]; iintro ⟨HO, Hz1⟩
  rw [show owA c 2 = 0 + owA c 2 from (zero_add _).symm]
  iapply (wp_sendA m K c 2 0) $$ [$HK $HO $Ha2 $Hd2 $Hs2 $Hr2]; iintro ⟨HO, Hz2⟩
  iapply (wp_recvA m c K 2 (above_zero 3)) $$ [$HK $Hlev $HO $Hc2 $Hp2]; iintro ⟨HO, Hp2, Hb2⟩
  iapply (wp_recvA m c K 1 (above_zero 3)) $$ [$HK $Hlev $HO $Hc1 $Hp1]; iintro ⟨HO, Hp1, Hb1⟩
  iapply (wp_recvA m c K 0 (above_zero 3)) $$ [$HK $Hlev $HO $Hc0 $Hp0]; iintro ⟨HO, Hp0, Hb0⟩
  ihave Hb0 := (show (amx c (Fin.succ 0) fullShare (lblk m (sh c ((0 : Fin 3).val + 1))) : sProp 𝕄) ⊢ _ from (amx_shares c 1 (lblk m (sh c 1))).1) $$ Hb0
  icases Hb0 with ⟨Hx0, Hx1, Hx2, Hx3⟩
  ihave Hb1 := (show (amx c (Fin.succ 1) fullShare (lblk m (sh c ((1 : Fin 3).val + 1))) : sProp 𝕄) ⊢ _ from (amx_shares c 2 (lblk m (sh c 2))).1) $$ Hb1
  icases Hb1 with ⟨Hy0, Hy1, Hy2, Hy3⟩
  ihave Hb2 := (show (amx c (Fin.succ 2) fullShare (lblk m (sh c ((2 : Fin 3).val + 1))) : sProp 𝕄) ⊢ _ from (amx_shares c 3 (lblk m (sh c 3))).1) $$ Hb2
  icases Hb2 with ⟨Hw0, Hw1, Hw2, Hw3⟩
  ihave Hg := (gath_eq c m (ashare 3)).1 $$ [$Ha3 $Hx3 $Hy3 $Hw3]
  iapply (wp_loadAll c (ashare 3) (gath m c)) $$ Hg; iintro Hg
  ihave Hg := (gath_eq c m (ashare 3)).2 $$ Hg
  icases Hg with ⟨Ha3, Hx3, Hy3, Hw3⟩
  iapply Hk
  isplitl [HO]; · iexact HO
  isplitl [Ha3]; · iexact Ha3
  isplitl [Hx0 Hx1 Hx2 Hx3 Hy0 Hy1 Hy2 Hy3 Hw0 Hw1 Hw2 Hw3]
  · isplitl [Hx0 Hx1 Hx2 Hx3]
    · iapply (show _ ⊢ (amx c (Fin.succ 0) fullShare (lblk m (sh c ((0 : Fin 3).val + 1))) : sProp 𝕄) from (amx_shares c 1 (lblk m (sh c 1))).2); iframe
    isplitl [Hy0 Hy1 Hy2 Hy3]
    · iapply (show _ ⊢ (amx c (Fin.succ 1) fullShare (lblk m (sh c ((1 : Fin 3).val + 1))) : sProp 𝕄) from (amx_shares c 2 (lblk m (sh c 2))).2); iframe
    · iapply (show _ ⊢ (amx c (Fin.succ 2) fullShare (lblk m (sh c ((2 : Fin 3).val + 1))) : sProp 𝕄) from (amx_shares c 3 (lblk m (sh c 3))).2); iframe
  iframe

end Cert.KernelIdeal.Run
-- ==== Proof.Body.lean ====
/- The program of a device, run through from the barrier to the last wait. -/
module

public import proofs.«01_k».proof.Proof.Exchange

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable {α : Type} (m : (ℓ : Loc nD τ sig) → Buf (Elt F) ℓ) (K : Dev nD × Kind' → ℕ) (c : Dev nD)

/-! ## The barrier and the copies out -/

/-- The entry barrier: room on this device is given away, room on the other devices is received. -/
theorem wp_barrier {k : PUnit → DProg F α} {Q : α → sProp 𝕄} :
    iprop(known m K ∗ levAts L lv ∗ owesE c (O₀ c)
        ∗ three (fun i => dutyTok ER (barC (sh c (i.val + 1))) 0 i.rev)
        ∗ three (fun i => iprop(∃ X, comm c i.succ X)) ∗ three (fun i => iprop(∃ X, amx c i.succ fullShare X))
        ∗ cred (tallyAt (barC c) () 3) ∗ atPos ER (barC c) 0 ∅ 0)
      ⊢ iprop((owesE c (OR c) ∗ atPos ER (barC c) 1 ∅ 0
          ∗ three (fun i => iprop(∃ X, comm (sh c (i.val + 1)) (slot i) X))
          ∗ three (fun i => iprop(∃ X, amx (sh c (i.val + 1)) (slot i) fullShare X)) -∗ WP c (k ⟨⟩) Q)
        -∗ WP c (barrier c >>= k) Q) := by
  unfold barrier three O₀
  simp only [bind_assoc]
  iintro ⟨#HK, #Hlev, HO, ⟨Ht0, Ht1, Ht2⟩, ⟨Hc0, Hc1, Hc2⟩, ⟨Ha0, Ha1, Ha2⟩, Hcr, Hp⟩ Hk
  iapply (wp_sig m K c 0 (OR c + owB c 2 + owB c 1)) $$ [$HK $HO $Ht0 $Hc0 $Ha0]; iintro HO
  iapply (wp_sig m K c 1 (OR c + owB c 2)) $$ [$HK $HO $Ht1 $Hc1 $Ha1]; iintro HO
  iapply (wp_sig m K c 2 (OR c)) $$ [$HK $HO $Ht2 $Hc2 $Ha2]; iintro HO
  iapply (wp_barWait m K c (above_OR c)) $$ [$HK $Hlev $HO $Hcr $Hp]
  unfold barPay
  iintro ⟨HO, Hp, ⟨Hb0, He0⟩, ⟨Hb1, He1⟩, ⟨Hb2, He2⟩⟩
  iapply Hk
  iframe

/-- The three row blocks sent. -/
theorem wp_sends {k : PUnit → DProg F α} {Q : α → sProp 𝕄} :
    iprop(known m K ∗ owesE c (OR c) ∗ three (fun i => xsd m c i)
        ∗ three (fun i => iprop(∃ X, comm (sh c (i.val + 1)) (slot i) X))
        ∗ three (fun i => dutyTok ER (sndC c i) 0 0) ∗ three (fun i => dutyTok ER (rcvC (sh c (i.val + 1)) i.rev) 0 0))
      ⊢ iprop((owesE c (OA c) ∗ three (fun i => cred (tallyAt (sndC c i) () NX)) -∗ WP c (k ⟨⟩) Q)
        -∗ WP c (sendX c 0 >>= fun _ => sendX c 2 >>= fun _ => sendX c 1 >>= k) Q) := by
  unfold three OR
  iintro ⟨#HK, HO, ⟨Hx0, Hx1, Hx2⟩, ⟨Hc0, Hc1, Hc2⟩, ⟨Hs0, Hs1, Hs2⟩, ⟨Hr0, Hr1, Hr2⟩⟩ Hk
  iapply (wp_sendX m K c 0 (OA c + owR c 1 + owR c 2)) $$ [$HK $HO $Hx0 $Hc0 $Hs0 $Hr0]; iintro ⟨HO, Hz0⟩
  iapply (wp_sendX m K c 2 (OA c + owR c 1)) $$ [$HK $HO $Hx2 $Hc2 $Hs2 $Hr2]; iintro ⟨HO, Hz2⟩
  iapply (wp_sendX m K c 1 (OA c)) $$ [$HK $HO $Hx1 $Hc1 $Hs1 $Hr1]; iintro ⟨HO, Hz1⟩
  iapply Hk
  iframe

/-- The waits until the row blocks have been sent. -/
theorem wp_sents {k : PUnit → DProg F α} {Q : α → sProp 𝕄} :
    iprop(known m K ∗ levAts L lv ∗ owesE c (OA c) ∗ three (fun i => cred (tallyAt (sndC c i) () NX))
        ∗ three (fun i => atPos ER (sndC c i) 0 ∅ 0))
      ⊢ iprop((owesE c (OA c) ∗ three (fun i => xsd m c i) ∗ three (fun i => atPos ER (sndC c i) 1 ∅ 0) -∗ WP c (k ⟨⟩) Q)
        -∗ WP c (sentX c 0 >>= fun _ => sentX c 2 >>= fun _ => sentX c 1 >>= k) Q) := by
  unfold three
  iintro ⟨#HK, #Hlev, HO, ⟨Hc0, Hc1, Hc2⟩, ⟨Hp0, Hp1, Hp2⟩⟩ Hk
  iapply (wp_sentX m c K 0 ((above_OA c).le (by decide))) $$ [$HK $Hlev $HO $Hc0 $Hp0]; iintro ⟨HO, Hp0, Hx0⟩
  iapply (wp_sentX m c K 2 ((above_OA c).le (by decide))) $$ [$HK $Hlev $HO $Hc2 $Hp2]; iintro ⟨HO, Hp2, Hx2⟩
  iapply (wp_sentX m c K 1 ((above_OA c).le (by decide))) $$ [$HK $Hlev $HO $Hc1 $Hp1]; iintro ⟨HO, Hp1, Hx1⟩
  iapply Hk
  iframe

/-- The waits until the local maximum has been sent. -/
theorem wp_sentAs {k : PUnit → DProg F α} {Q : α → sProp 𝕄} :
    iprop(known m K ∗ levAts L lv ∗ owesE c 0 ∗ three (fun i => cred (tallyAt (asnC c i) () NA))
        ∗ three (fun i => atPos ER (asnC c i) 0 ∅ 0))
      ⊢ iprop((owesE c 0 ∗ three (fun i => amx c 0 (ashare i.castSucc) (lblk m c)) ∗ three (fun i => atPos ER (asnC c i) 1 ∅ 0) -∗ WP c (k ⟨⟩) Q)
        -∗ WP c (sentA 0 >>= fun _ => sentA 1 >>= fun _ => sentA 2 >>= k) Q) := by
  unfold three
  iintro ⟨#HK, #Hlev, HO, ⟨Hc0, Hc1, Hc2⟩, ⟨Hp0, Hp1, Hp2⟩⟩ Hk
  iapply (wp_sentA m c K 0 (above_zero 0)) $$ [$HK $Hlev $HO $Hc0 $Hp0]; iintro ⟨HO, Hp0, Hx0⟩
  iapply (wp_sentA m c K 1 (above_zero 0)) $$ [$HK $Hlev $HO $Hc1 $Hp1]; iintro ⟨HO, Hp1, Hx1⟩
  iapply (wp_sentA m c K 2 (above_zero 0)) $$ [$HK $Hlev $HO $Hc2 $Hp2]; iintro ⟨HO, Hp2, Hx2⟩
  iapply Hk
  iframe

/-- Three semaphores of the protocol at zero after their rounds. -/
theorem close3 (a : Fin 4) :
    iprop(known m K ∗ three (fun i => atPos ER (kcell (c, some (a, i))) 1 ∅ 0))
      ⊢ iprop(|={Set.univ}=> three (fun i => semVal (kcell (c, some (a, i))) 0) : sProp 𝕄) := by
  unfold three
  iintro ⟨#HK, H0, H1, H2⟩
  imod (close m K (c, some (a, 0))) $$ [$HK $H0] with H0
  imod (close m K (c, some (a, 1))) $$ [$HK $H1] with H1
  imod (close m K (c, some (a, 2))) $$ [$HK $H2] with H2
  imodintro
  iframe

/-! ## The four products -/

/-- Slot `i + 1` as received, by its index. -/
theorem comm_one : comm c (Fin.succ 0) (slotC m c (Fin.succ 0)) ⊢ (comm c 1 (slotC m c 1) : sProp 𝕄) := .rfl
/-- Slot 2, by its number. -/
theorem comm_two : comm c (Fin.succ 1) (slotC m c (Fin.succ 1)) ⊢ (comm c 2 (slotC m c 2) : sProp 𝕄) := .rfl
/-- Slot 3, by its number. -/
theorem comm_three : comm c (Fin.succ 2) (slotC m c (Fin.succ 2)) ⊢ (comm c 3 (slotC m c 3) : sProp 𝕄) := .rfl

/-- All products: the tiles hold the sums, and the local maximum's block is returned. -/
theorem wp_products (Y : Fin 8 → Vec F S1024x1024 .f32) {k : Vec F S8x128 .f32 → DProg F α} {Q : α → sProp 𝕄} :
    iprop(known m K ∗ levAts L lv ∗ owesE c (OA c) ∗ comm c 0 (slotC m c 0) ∗ wPair m c 0 ∗ outs c Y
        ∗ three (fun i => cred (tallyAt (rcvC c i) () NX)) ∗ three (fun i => atPos ER (rcvC c i) 0 ∅ 0))
      ⊢ iprop((owesE c (OA c) ∗ (comm c 0 (slotC m c 0) ∗ comm c 1 (slotC m c 1) ∗ comm c 2 (slotC m c 2) ∗ comm c 3 (slotC m c 3))
          ∗ (wIdle m c 0 ∗ wIdle m c 1) ∗ outs c (p3 m c) ∗ three (fun i => atPos ER (rcvC c i) 1 ∅ 0) -∗ WP c (k (lblk m c)) Q)
        -∗ WP c (groupFirst c >>= fun _ => recvX 0 >>= fun _ => groupMid c 1 3 >>= fun _ => recvX 2 >>= fun _ =>
            groupMid c 3 2 >>= fun _ => recvX 1 >>= fun _ => groupLast c >>= k) Q) := by
  unfold three
  iintro ⟨#HK, #Hlev, HO, HC0, HW, HY, ⟨Hc0, Hc1, Hc2⟩, ⟨Hp0, Hp1, Hp2⟩⟩ Hk
  iapply (wp_groupFirst m c Y ((above_OA c).le (by decide))) $$ [$Hlev $HO $HC0 $HW $HY]; iintro ⟨HO, HC0, HW, HY⟩
  iapply (wp_recvX m c K 0 (above_OA c)) $$ [$HK $Hlev $HO $Hc0 $Hp0]; iintro ⟨HO, Hp0, HC1⟩
  ihave HC1 := (comm_one m c) $$ HC1
  iapply (wp_groupMid m c 1 3 (slotC m c 1) (p0 m c) ((above_OA c).le (by decide))) $$ [$Hlev $HO $HC1 $HW $HY]; iintro ⟨HO, HC1, HW, HY⟩
  ihave HY := (show outs c (fun j => k0_pay9 (slotC m c 1) (stacked (wtile m c 1 j)) (p0 m c j)) ⊢ (outs c (p1 m c) : sProp 𝕄) from .rfl) $$ HY
  iapply (wp_recvX m c K 2 (above_OA c)) $$ [$HK $Hlev $HO $Hc2 $Hp2]; iintro ⟨HO, Hp2, HC3⟩
  ihave HC3 := (comm_three m c) $$ HC3
  iapply (wp_groupMid m c 3 2 (slotC m c 3) (p1 m c) ((above_OA c).le (by decide))) $$ [$Hlev $HO $HC3 $HW $HY]; iintro ⟨HO, HC3, HW, HY⟩
  ihave HY := (show outs c (fun j => k0_pay9 (slotC m c 3) (stacked (wtile m c 3 j)) (p1 m c j)) ⊢ (outs c (p2 m c) : sProp 𝕄) from .rfl) $$ HY
  iapply (wp_recvX m c K 1 (above_OA c)) $$ [$HK $Hlev $HO $Hc1 $Hp1]; iintro ⟨HO, Hp1, HC2⟩
  ihave HC2 := (comm_two m c) $$ HC2
  iapply (wp_groupLast m c ((above_OA c).le (by decide))) $$ [$Hlev $HO $HC2 $HW $HY]; iintro ⟨HO, HC2, HW, HY⟩
  iapply Hk
  iframe

/-! ## The whole program -/

/-- The ghost state a device starts from: the duties it pays and its positions on its own semaphores. -/
def linear : sProp 𝕄 :=
  iprop((three (fun i => dutyTok ER (barC (sh c (i.val + 1))) 0 i.rev)
      ∗ three (fun i => dutyTok ER (rcvC (sh c (i.val + 1)) i.rev) 0 0) ∗ three (fun i => dutyTok ER (arcC (sh c (i.val + 1)) i.rev) 0 0)
      ∗ three (fun i => dutyTok ER (sndC c i) 0 0) ∗ three (fun i => dutyTok ER (asnC c i) 0 0))
    ∗ atPos ER (barC c) 0 ∅ 0 ∗ three (fun i => atPos ER (sndC c i) 0 ∅ 0) ∗ three (fun i => atPos ER (rcvC c i) 0 ∅ 0)
      ∗ three (fun i => atPos ER (asnC c i) 0 ∅ 0) ∗ three (fun i => atPos ER (arcC c i) 0 ∅ 0))

/-- The credit it is given at launch. -/
def creds : sProp 𝕄 :=
  iprop(cred (tallyAt (barC c) () 3) ∗ three (fun i => cred (tallyAt (rcvC c i) () NX)) ∗ three (fun i => cred (tallyAt (arcC c i) () NA)))

/-- The semaphores of its local copies. -/
def lsems : sProp 𝕄 :=
  iprop(semVal ((c : Thread nD τ), SemLoc.dma cc0_scratch3.sem) 0 ∗ semVal ((c : Thread nD τ), SemLoc.dma (wsem 0)) 0
    ∗ semVal ((c : Thread nD τ), SemLoc.dma (wsem 1)) 0)

/-- The semaphores of the protocol, all at zero. -/
def ksems : sProp 𝕄 :=
  iprop(semVal (barC c) 0 ∗ three (fun i => semVal (sndC c i) 0) ∗ three (fun i => semVal (rcvC c i) 0)
    ∗ three (fun i => semVal (asnC c i) 0) ∗ three (fun i => semVal (arcC c i) 0))

/-- The arguments, unchanged. -/
def args : sProp 𝕄 :=
  iprop(((c : Thread nD τ).loc main_arg0 ↦{fullShare} mx m c) ∗ ((c : Thread nD τ).loc main_arg1 ↦{fullShare} mw m c))

/-- The scratch buffers, whatever they hold. -/
def scratch : sProp 𝕄 := iprop(commAny c ∗ wAny c ∗ amaxAny c)

/-- What the body of device `c` starts from. -/
def bodyPre : sProp 𝕄 :=
  iprop(known m K ∗ levAts L lv ∗ linear c ∗ creds c ∗ lsems c ∗ args m c ∗ scratch c ∗ owesE c (O₀ c)
    ∗ ∃ f : Vec F S1024x8192 .f32, ((c : Thread nD τ).loc cc0_stg0_0 ↦{fullShare} f))
/-- What the body of device `c` leaves. -/
def bodyPost : sProp 𝕄 :=
  iprop(ksems c ∗ lsems c ∗ args m c ∗ scratch c ∗ owesE c 0 ∗ ((c : Thread nD τ).loc cc0_stg0_0 ↦{fullShare} outC m c))

/-- All the result's tiles rounded: the result. -/
theorem outs_outC : outs c (fun j => quant (gath m c) (p3 m c j)) ⊢ ((c : Thread nD τ).loc cc0_stg0_0 ↦{fullShare} outC m c : sProp 𝕄) := by
  refine .trans (Entails.of_eq ?_) (outs_join c (outC m c))
  exact congrArg (outs c) (funext fun j => (outC_emb m c j).symm)

/-- A device's program, from what it starts with to the result in its staging buffer. -/
theorem wp_progAt {k : PUnit → DProg F α} {Q : α → sProp 𝕄} :
    bodyPre m K c ⊢ iprop((bodyPost m c -∗ WP c (k ⟨⟩) Q) -∗ WP c (progAt c >>= k) Q) := by
  unfold bodyPre bodyPost linear creds lsems args scratch progAt
  simp only [bind_assoc]
  iintro ⟨#HK, #Hlev, ⟨⟨TB, TR, TA, TS, TN⟩, PB, PS, PR, PN, PA⟩, ⟨CB, CR, CA⟩, ⟨V3, V40, V41⟩, ⟨X0, X1⟩, ⟨SC, SW, SA⟩, HO, ⟨%f, HY⟩⟩ Hk
  ihave SC := (comm_split c) $$ SC; icases SC with ⟨C0, C1, C2, C3⟩
  ihave SA := (amax_split c) $$ SA; icases SA with ⟨A0, A1, A2, A3⟩
  ihave SW := (w_split c) $$ SW; icases SW with ⟨B0, B1⟩
  ihave HY := (outs_split c f) $$ HY
  ihave X0 := (Entails.of_eq (x_eq c m)) $$ X0; icases X0 with ⟨XO, XS⟩
  ihave X1 := (warg_split c m).1 $$ X1; icases X1 with ⟨W0, W1⟩
  iapply (wp_barrier m K c) $$ [HO TB C1 C2 C3 A1 A2 A3 CB PB]
  · isplitr; · iexact HK
    isplitr; · iexact Hlev
    isplitl [HO]; · iexact HO
    isplitl [TB]; · iexact TB
    isplitl [C1 C2 C3]
    · unfold three; isplitl [C1]; · iexact C1
      isplitl [C2]; · iexact C2
      iexact C3
    isplitl [A1 A2 A3]
    · unfold three; isplitl [A1]; · iexact A1
      isplitl [A2]; · iexact A2
      iexact A3
    isplitl [CB] <;> iassumption
  iintro ⟨HO, PB, RC, RA⟩
  iapply (wp_startX m c) $$ [$XO $C0 $V3]; iintro HX
  iapply (wp_sends m K c) $$ [HO XS RC TS TR]
  · isplitr; · iexact HK
    isplitl [HO]; · iexact HO
    isplitl [XS]; · unfold three; iexact XS
    isplitl [RC]; · iexact RC
    isplitl [TS] <;> iassumption
  iintro ⟨HO, ZS⟩
  iapply (wp_startW m c 0 0 0) $$ [B0 V40 W0]
  · unfold wIdle; isplitl [B0]; · iexact B0
    isplitl [V40] <;> iassumption
  iintro HW0
  iapply (wp_startW m c 0 1 1) $$ [B1 V41 W1]
  · unfold wIdle; isplitl [B1]; · iexact B1
    isplitl [V41] <;> iassumption
  iintro HW1
  iapply (wp_waitX m c ((above_OA c).le (by decide))) $$ [$Hlev $HX $HO]; iintro ⟨C0, XO, V3, HO⟩
  iapply (wp_products m K c _) $$ [HO C0 HW0 HW1 HY CR PR]
  · isplitr; · iexact HK
    isplitr; · iexact Hlev
    isplitl [HO]; · iexact HO
    isplitl [C0]; · iexact C0
    isplitl [HW0 HW1]
    · unfold wPair; isplitl [HW0] <;> iassumption
    isplitl [HY]; · iexact HY
    isplitl [CR] <;> iassumption
  iintro ⟨HO, ⟨C0, C1, C2, C3⟩, ⟨HW0, HW1⟩, HY, PR⟩
  iapply (wp_sents m K c) $$ [$HK $Hlev $HO $ZS $PS]; iintro ⟨HO, XS, PS⟩
  iapply (wp_exchange m c K) $$ [HO A0 RA TN TA CA PA]
  · isplitr; · iexact HK
    isplitr; · iexact Hlev
    isplitl [HO]; · iexact HO
    unfold exPre
    iframe
  unfold exPost
  iintro ⟨HO, A0, AR, ZN, PA⟩
  iapply (wp_quantAll c (gath m c) (p3 m c)) $$ HY; iintro HY
  iapply (wp_sentAs m K c) $$ [$HK $Hlev $HO $ZN $PN]; iintro ⟨HO, AS, PN⟩
  imod (close m K (c, none)) $$ [$HK $PB] with PB
  imod (close3 m K c 0) $$ [$HK $PS] with PS
  imod (close3 m K c 1) $$ [$HK $PR] with PR
  imod (close3 m K c 2) $$ [$HK $PN] with PN
  imod (close3 m K c 3) $$ [$HK $PA] with PA
  iapply Hk
  unfold wIdle
  icases HW0 with ⟨B0, V40, W0⟩
  icases HW1 with ⟨B1, V41, W1⟩
  isplitl [PB PS PR PN PA]
  · unfold ksems; iframe
  isplitl [V3 V40 V41]
  · isplitl [V3]; · iexact V3
    isplitl [V40] <;> iassumption
  isplitl [XO XS W0 W1]
  · isplitl [XO XS]
    · iapply (Entails.of_eq (x_eq c m).symm)
      isplitl [XO]; · iexact XO
      unfold three; iexact XS
    · iapply (warg_split c m).2
      isplitl [W0] <;> iassumption
  isplitl [C0 C1 C2 C3 B0 B1 A0 AR AS]
  · isplitl [C0 C1 C2 C3]
    · iapply (comm_join c)
      isplitl [C0]; · iexists _; iexact C0
      isplitl [C1]; · iexists _; iexact C1
      isplitl [C2]; · iexists _; iexact C2
      iexists _; iexact C3
    isplitl [B0 B1]
    · iapply (w_join c)
      isplitl [B0] <;> iassumption
    · unfold three
      icases AR with ⟨A1, A2, A3⟩
      icases AS with ⟨D0, D1, D2⟩
      iapply (amax_join c)
      isplitl [A0 D0 D1 D2]
      · iexists _
        iapply (amx_shares c 0 (lblk m c)).2
        isplitl [D0]; · iexact D0
        isplitl [D1]; · iexact D1
        isplitl [D2]; · iexact D2
        iexact A0
      isplitl [A1]; · iexists _; iexact A1
      isplitl [A2]; · iexists _; iexact A2
      iexists _; iexact A3
  isplitl [HO]; · iexact HO
  iapply (outs_outC m c); iexact HY

end Cert.KernelIdeal.Run
-- ==== Proof.Alloc.lean ====
/- The launch: every semaphore of the protocol becomes a cell, the tokens of the duties go to the devices that
   pay them, and the credit that all devices owe is dealt out. -/
module

public import proofs.«01_k».proof.Proof.Body

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Conjunctions over the kinds -/

omit [FloatOps F] in
/-- A separating conjunction over three, written out. -/
theorem bigSep_three (Φ : Fin 3 → sProp 𝕄) : bigSep Finset.univ Φ = three Φ :=
  bigSep_univ_eq_bigSepL [0, 1, 2] (by decide) (by decide) Φ

omit [FloatOps F] in
/-- Over the kinds of cells: the barrier, and four times three copies. -/
theorem bigSep_kinds (Φ : Kind' → sProp 𝕄) : bigSep Finset.univ Φ
    = iprop(Φ none ∗ three (fun i => Φ (some (0, i))) ∗ three (fun i => Φ (some (1, i)))
        ∗ three (fun i => Φ (some (2, i))) ∗ three (fun i => Φ (some (3, i)))) := by
  have h4 (Ψ : Fin 4 → sProp 𝕄) : bigSep Finset.univ Ψ = iprop(Ψ 0 ∗ Ψ 1 ∗ Ψ 2 ∗ Ψ 3) :=
    bigSep_univ_eq_bigSepL [0, 1, 2, 3] (by decide) (by decide) Ψ
  rw [bigSep_univ_at Φ none, show (Finset.univ.erase none : Finset Kind')
      = Finset.univ.map ⟨some, Option.some_injective _⟩ from by decide, bigSep_map, bigSep_univ_prod, h4]
  simp only [bigSep_three]
  rfl

omit [FloatOps F] in
/-- Three pairs are three of each. -/
theorem three_sep (Φ Ψ : Fin 3 → sProp 𝕄) : three (fun i => iprop(Φ i ∗ Ψ i)) ⊢ iprop(three Φ ∗ three Ψ) := by
  rw [← bigSep_three, ← bigSep_three, ← bigSep_three, bigSep_sep']

omit [FloatOps F] in
/-- Three families over the devices, the one at distance `i + 1` read `i + 1` devices further on. -/
theorem three_around (T : Dev nD → Fin 3 → sProp 𝕄) :
    (bigSep Finset.univ fun c : Dev nD => three (T c))
      ⊢ bigSep Finset.univ fun c : Dev nD => three fun i => T (sh c (i.val + 1)) i := by
  have hb : ∀ i : Fin 3, Function.Bijective fun c : Dev nD => sh c (i.val + 1) := by decide
  have he (i : Fin 3) : (bigSep Finset.univ fun c : Dev nD => T c i) = bigSep Finset.univ fun c : Dev nD => T (sh c (i.val + 1)) i :=
    bigSep_univ_equiv (Equiv.ofBijective _ (hb i)) fun c => T c i
  unfold three
  rw [bigSep_sep', bigSep_sep', bigSep_sep', bigSep_sep', he 0, he 1, he 2]

/-! ## The cells and the tokens minted -/

/-- The cells of the protocol, on all devices. -/
def cells : Finset (GSem nD τ sig) := Finset.univ.map ⟨kcell, kcell_injective⟩

/-- A device's tokens as minted: of the barrier's duties, and of the one duty of each copy's semaphore. -/
def tokOf (x : Dev nD × (Fin 5 × Fin 3)) : GSem nD τ sig × ℕ × Fin 3 := match x.2.1 with
  | 0 => (barC x.1, 0, x.2.2.rev)
  | 1 => (rcvC x.1 x.2.2.rev, 0, 0)
  | 2 => (arcC x.1 x.2.2.rev, 0, 0)
  | 3 => (sndC x.1 x.2.2, 0, 0)
  | 4 => (asnC x.1 x.2.2, 0, 0)

/-- Which kind and which duty a token is of. -/
def tokKind (y : Fin 5 × Fin 3) : Kind' × Fin 3 := match y.1 with
  | 0 => (none, y.2.rev)
  | 1 => (some (1, y.2.rev), 0)
  | 2 => (some (3, y.2.rev), 0)
  | 3 => (some (0, y.2), 0)
  | 4 => (some (2, y.2), 0)

/-- Different tokens of a device are of different duties. -/
theorem tokKind_injective : Function.Injective tokKind := by decide

/-- The duty that a token stands for. -/
theorem tokOf_eq (c : Dev nD) (y : Fin 5 × Fin 3) : tokOf (c, y) = (kcell (c, (tokKind y).1), 0, (tokKind y).2) := by
  obtain ⟨a, i⟩ := y
  fin_cases a <;> rfl

/-- Different tokens stand for different duties. -/
theorem tokOf_injective : Function.Injective tokOf := by
  rintro ⟨c, y⟩ ⟨c', y'⟩ h
  rw [tokOf_eq, tokOf_eq] at h
  have h1 := kcell_injective (congrArg Prod.fst h)
  have h2 : (tokKind y).2 = (tokKind y').2 := congrArg (fun z => z.2.2) h
  rw [show c = c' from congrArg Prod.fst h1, tokKind_injective (Prod.ext (congrArg Prod.snd h1) h2)]

/-- The tokens of all duties. -/
def tokens : Finset (GSem nD τ sig × ℕ × Fin 3) := Finset.univ.map ⟨tokOf, tokOf_injective⟩

/-- The tokens of device `c`'s own cells. -/
def toks (c : Dev nD) : sProp 𝕄 :=
  iprop(three (fun i => dutyTok ER (barC c) 0 i.rev) ∗ three (fun i => dutyTok ER (rcvC c i.rev) 0 0)
    ∗ three (fun i => dutyTok ER (arcC c i.rev) 0 0)
    ∗ three (fun i => dutyTok ER (sndC c i) 0 0) ∗ three (fun i => dutyTok ER (asnC c i) 0 0))

/-- The tokens of the duties that device `c` pays. -/
def payToks (c : Dev nD) : sProp 𝕄 :=
  iprop(three (fun i => dutyTok ER (barC (sh c (i.val + 1))) 0 i.rev) ∗ three (fun i => dutyTok ER (rcvC (sh c (i.val + 1)) i.rev) 0 0)
    ∗ three (fun i => dutyTok ER (arcC (sh c (i.val + 1)) i.rev) 0 0)
    ∗ three (fun i => dutyTok ER (sndC c i) 0 0) ∗ three (fun i => dutyTok ER (asnC c i) 0 0))

omit [FloatOps F] in
/-- The tokens dealt: those of a device's own cells to the devices that pay them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep']
  exact BI.sep_mono (three_around fun c i => dutyTok ER (barC c) 0 i.rev)
    (BI.sep_mono (three_around fun c i => dutyTok ER (rcvC c i.rev) 0 0)
      (sep_mono_left (three_around fun c i => dutyTok ER (arcC c i.rev) 0 0)))

/-! ## The ghost state dealt at launch -/

/-- The ghost state of the launch: the pipeline's rounds, the protocol's rounds, no counter. -/
def u₀ : UU :=
  (initOf (Pipeline.cells cfgs cellOf_inj) (Pipeline.launchToks cfgs cellOf_inj), (initOf cells tokens, 1))

/-- What it deals device `c`. -/
def G (c : Dev nD) : sProp 𝕄 :=
  iprop((bigSep Finset.univ fun k : Kind' => roundState ER (sched m) (kcell (c, k)) 0)
    ∗ (bigSep Finset.univ fun k : Kind' => iprop(atPos ER (kcell (c, k)) 0 ∅ 0 ∗ reached ER (kcell (c, k)) 0)) ∗ toks c)

/-- The ghost state at the start makes every cell ready for its round. -/
theorem fund_cells : BI.own (ER (initOf cells tokens)) ⊢ (|==> bigSep Finset.univ (G m) : sProp 𝕄) := by
  have h5 (Ψ : Fin 5 → sProp 𝕄) : bigSep Finset.univ Ψ = iprop(Ψ 0 ∗ Ψ 1 ∗ Ψ 2 ∗ Ψ 3 ∗ Ψ 4) :=
    bigSep_univ_eq_bigSepL [0, 1, 2, 3, 4] (by decide) (by decide) Ψ
  have hX (Φ : GSem nD τ sig → sProp 𝕄) : bigSep cells Φ = bigSep Finset.univ fun c : Dev nD => bigSep Finset.univ fun k : Kind' => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    refine bigSep_congr fun c _ => ?_
    unfold toks
    rw [bigSep_univ_prod, h5]
    simp only [bigSep_three]
    rfl
  iintro HX
  imod (Rounds.fund ER (sched m) cells tokens) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores -/

/-- The kernel's own semaphores: those of the local copies, four never used, those of the protocol's copies. -/
def osem (i : Fin 19) : SemLoc sig :=
  (![.dma cc0_scratch3.sem, .dma (wsem 0), .dma (wsem 1),
    .dma (sem4 cc0_scratch5 0), .dma (sem4 cc0_scratch6 0), .dma (sem4 cc0_scratch7 0), .dma (sem4 cc0_scratch8 0),
    csem (some (0, 0)), csem (some (0, 1)), csem (some (0, 2)), csem (some (1, 0)), csem (some (1, 1)), csem (some (1, 2)),
    csem (some (2, 0)), csem (some (2, 1)), csem (some (2, 2)), csem (some (3, 0)), csem (some (3, 1)), csem (some (3, 2))]
    : Fin 19 → SemLoc sig) i

/-- The semaphores that the kernel owns are told apart. -/
theorem ownSemFacts : Pipeline.OwnSemFacts cfg0.spec osem := by decide +kernel

/-- The four semaphores that are never used, at zero. -/
def spare (c : Dev nD) : sProp 𝕄 :=
  iprop(semVal ((c : Thread nD τ), SemLoc.dma (sem4 cc0_scratch5 0)) 0 ∗ semVal ((c : Thread nD τ), SemLoc.dma (sem4 cc0_scratch6 0)) 0
    ∗ semVal ((c : Thread nD τ), SemLoc.dma (sem4 cc0_scratch7 0)) 0 ∗ semVal ((c : Thread nD τ), SemLoc.dma (sem4 cc0_scratch8 0)) 0)

/-- A device's own semaphores at zero. -/
abbrev owns0 (c : Dev nD) : sProp 𝕄 := Pipeline.ownSems0 (Ix := Unit) (Name := ℕ) (U := UU) (Lvl := ℕ) (Val := Elt F) (τ := τ) osem c

omit [FloatOps F] in
/-- A device's own semaphores at zero, one by one. -/
theorem ownSems0_list (c : Dev nD) : (owns0 c : sProp 𝕄)
    = iprop(semVal ((c : Thread nD τ), SemLoc.dma cc0_scratch3.sem) 0 ∗ semVal ((c : Thread nD τ), SemLoc.dma (wsem 0)) 0
       ∗ semVal ((c : Thread nD τ), SemLoc.dma (wsem 1)) 0
       ∗ semVal ((c : Thread nD τ), SemLoc.dma (sem4 cc0_scratch5 0)) 0
       ∗ semVal ((c : Thread nD τ), SemLoc.dma (sem4 cc0_scratch6 0)) 0
       ∗ semVal ((c : Thread nD τ), SemLoc.dma (sem4 cc0_scratch7 0)) 0
       ∗ semVal ((c : Thread nD τ), SemLoc.dma (sem4 cc0_scratch8 0)) 0 ∗ semVal (sndC c 0) 0 ∗ semVal (sndC c 1) 0
       ∗ semVal (sndC c 2) 0 ∗ semVal (rcvC c 0) 0 ∗ semVal (rcvC c 1) 0 ∗ semVal (rcvC c 2) 0 ∗ semVal (asnC c 0) 0
       ∗ semVal (asnC c 1) 0 ∗ semVal (asnC c 2) 0 ∗ semVal (arcC c 0) 0 ∗ semVal (arcC c 1) 0 ∗ semVal (arcC c 2) 0) := by
  unfold owns0
  rw [Pipeline.ownSems0_eq_of_list c osem [0, 1, 2, 3, 4, 5, 6, 7, 8, 9, 10, 11, 12, 13, 14, 15, 16, 17, 18] (by decide) (by decide)]
  rfl

omit [FloatOps F] in
/-- The only semaphore that the launch does not open is the barrier. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
/-- All semaphores of a device: the local copies', the four unused, the protocol's. -/
theorem sems0_eq (c : Dev nD) : iprop(owns0 c ∗ unscopedSems0 c) ⊣⊢ (iprop(lsems c ∗ spare c ∗ ksems c) : sProp 𝕄) := by
  rw [ownSems0_list, unscopedSems0_eq]
  unfold lsems spare ksems three
  constructor
  · iintro ⟨⟨A0, A1, A2, A3, A4, A5, A6, A7, A8, A9, A10, A11, A12, A13, A14, A15, A16, A17, A18⟩, HB⟩
    iframe
  · iintro ⟨⟨A0, A1, A2⟩, ⟨A3, A4, A5, A6⟩, HB, ⟨A7, A8, A9⟩, ⟨A10, A11, A12⟩, ⟨A13, A14, A15⟩, A16, A17, A18⟩
    iframe

omit [FloatOps F] in
/-- A device's semaphores of the protocol at zero, as one conjunction. -/
theorem ksems_eq (c : Dev nD) : (ksems c : sProp 𝕄) = bigSep Finset.univ fun k : Kind' => semVal (kcell (c, k)) 0 := by
  rw [bigSep_kinds]; rfl

/-! ## The cells open, on every device at once -/

/-- What a device's semaphores and ghost state at the start give: the invariants' names and the tokens. -/
theorem core_alloc (c : Dev nD) :
    iprop(owns0 c ∗ unscopedSems0 c ∗ G m c)
      ⊢ (|={Set.univ}=> iprop((bigSep Finset.univ fun k : Kind' => iprop(∃ κ : ℕ, cellInv ER (sched m) κ (kcell (c, k))))
          ∗ (bigSep Finset.univ fun k : Kind' => iprop(atPos ER (kcell (c, k)) 0 ∅ 0 ∗ reached ER (kcell (c, k)) 0)) ∗ toks c
          ∗ lsems c ∗ spare c) : sProp 𝕄) := by
  unfold G
  iintro ⟨Hos, Hus, Hst, Hat, Htok⟩
  ihave Hv := (sems0_eq (F := F) c).1 $$ [Hos Hus]
  · isplitl [Hos] <;> iassumption
  icases Hv with ⟨HL, HS, Hv⟩
  ihave Hv := (Entails.of_eq (ksems_eq (F := F) c)) $$ Hv
  imod (show iprop((bigSep Finset.univ fun k : Kind' => semVal (kcell (c, k)) 0) ∗ bigSep Finset.univ fun k : Kind' => roundState ER (sched m) (kcell (c, k)) 0)
      ⊢ (|={Set.univ}=> bigSep Finset.univ fun k : Kind' => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  isplitl [HL] <;> iassumption

/-- What device `c` gets out of the launch: what all know, its own ghost state, and the semaphores that stay with it. -/
def G' (c : Dev nD) : sProp 𝕄 := iprop(∃ K, known m K ∗ linear c ∗ lsems c ∗ spare c)

/-- The tokens regrouped from the cell that they pay to the device that pays. -/
theorem regroup :
    (bigSep Finset.univ fun c : Dev nD => iprop((bigSep Finset.univ fun k : Kind' => iprop(∃ κ : ℕ, cellInv ER (sched m) κ (kcell (c, k))))
          ∗ (bigSep Finset.univ fun k : Kind' => iprop(atPos ER (kcell (c, k)) 0 ∅ 0 ∗ reached ER (kcell (c, k)) 0)) ∗ toks c ∗ lsems c ∗ spare c) : sProp 𝕄)
      ⊢ bigSep Finset.univ (G' m) := by
  rw [bigSep_sep', bigSep_sep', bigSep_sep', ← bigSep_univ_prod (fun ck : Dev nD × Kind' => iprop(∃ κ : ℕ, cellInv ER (sched m) κ (kcell ck))),
    bigSep_congr (s := Finset.univ) (fun (c : Dev nD) _ => bigSep_sep' Finset.univ (fun k : Kind' => (atPos ER (kcell (c, k)) 0 ∅ 0 : sProp 𝕄)) (fun k => reached ER (kcell (c, k)) 0)),
    bigSep_sep', ← bigSep_univ_prod (fun ck : Dev nD × Kind' => (reached ER (kcell ck) 0 : sProp 𝕄))]
  iintro ⟨HI, ⟨Hat, #HR⟩, Htok, Hsem⟩
  ihave HK := (BI.bigSep_exists_pi Finset.univ (fun (ck : Dev nD × Kind') (κ : ℕ) => (cellInv ER (sched m) κ (kcell ck) : sProp 𝕄))) $$ HI
  icases HK with ⟨%K, #HI⟩
  ihave Htk := (toks_around (F := F)) $$ Htok
  iapply (bigSep_with_persistent (R := known m K)
    (Φ := fun c : Dev nD => iprop((bigSep Finset.univ fun k : Kind' => atPos ER (kcell (c, k)) 0 ∅ 0) ∗ payToks c ∗ lsems c ∗ spare c))
    fun c _ => show _ ⊢ G' m c from by
      unfold G' linear
      rw [bigSep_kinds]
      iintro ⟨HK, HA, HT, HL, HS⟩
      iexists K
      isplitl [HK]; · iexact HK
      isplitl [HA HT]
      · isplitl [HT]; · unfold payToks; iexact HT
        iexact HA
      isplitl [HL] <;> iassumption)
  isplitr
  · unfold known; isplitl; · iexact HI
    iexact HR
  · iapply (Entails.of_eq (show _ = _ from by rw [bigSep_sep', bigSep_sep']))
    isplitl [Hat]; · iexact Hat
    isplitl [Htk]; · iexact Htk
    iexact Hsem

/-- The step at launch, on all devices at once. -/
theorem glob : (bigSep Finset.univ fun c => iprop(owns0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

omit [FloatOps F] in
/-- A debt on one cell, read at a cell. -/
theorem tally_kcell (a b : Dev nD × Kind') (n : ℕ) : (tallyAt (kcell a) () n : CellTallies nD τ sig Unit) (kcell b) () = if b = a then n else 0 := by
  rw [tallyAt_apply]
  by_cases h : b = a
  · rw [if_pos h, if_pos ⟨congrArg kcell h, rfl⟩]
  · rw [if_neg h, if_neg fun h' => h (kcell_injective h'.1)]

omit [FloatOps F] in
/-- What device `d` owes a cell of the protocol. -/
theorem owed_kcell (d : Dev nD) (b : Dev nD × Kind') : O₀ d (kcell b) ()
    = ((if b = (sh d 3, some (3, 0)) then NA else 0) + (if b = (sh d 2, some (3, 1)) then NA else 0) + (if b = (sh d 1, some (3, 2)) then NA else 0))
      + (if b = (sh d 2, some (1, 1)) then NX else 0) + (if b = (sh d 3, some (1, 0)) then NX else 0) + (if b = (sh d 1, some (1, 2)) then NX else 0)
      + (if b = (sh d 3, none) then 1 else 0) + (if b = (sh d 2, none) then 1 else 0) + (if b = (sh d 1, none) then 1 else 0) := by
  unfold O₀ OR OA owA owR owB
  simp only [Pi.add_apply, Finsupp.add_apply, tally_kcell]
  rfl

/-- What all devices together owe a kind of cell. -/
def dueK : Kind' → ℕ
  | none => 3
  | some (1, _) => NX
  | some (3, _) => NA
  | _ => 0

omit [FloatOps F] in
/-- What all devices together owe a cell is what the cell expects. -/
theorem owed_all (c : Dev nD) (k : Kind') : ∑ d : Dev nD, O₀ d (kcell (c, k)) () = dueK k := by
  rw [Finset.sum_congr rfl fun d _ => owed_kcell d (c, k)]
  rcases k with _ | ⟨a, i⟩
  · fin_cases c <;> simp [Fin.sum_univ_four, sh, dueK, nD]
  · fin_cases a <;> fin_cases i <;> fin_cases c <;> simp [Fin.sum_univ_four, sh, dueK, nD]

omit [FloatOps F] in
/-- The credit that the launch gives a cell is what it is owed. -/
theorem launch_kcell (c : Dev nD) (k : Kind') :
    tallyOn (kcell (c, k)) (launchCredit (Pipeline.owing O₀) 0 (kcell (c, k))) = (tallyAt (kcell (c, k)) () (dueK k) : CellTallies nD τ sig Unit) := by
  unfold tallyAt; refine congrArg _ (Finsupp.ext fun u => ?_); cases u
  rw [Pipeline.launchCredit_owing, Finsupp.single_eq_same, owed_all]

omit [FloatOps F] in
/-- The credit that device `c` is dealt. -/
theorem creds_intro (c : Dev nD) : (Pipeline.launchCred O₀ c : sProp 𝕄) ⊢ creds c := by
  unfold Pipeline.launchCred
  refine (bigSep_subset (t := Finset.univ.map ⟨csem, csem_injective⟩) (Finset.subset_univ _)).trans ?_
  rw [bigSep_map]
  refine (Entails.of_eq (bigSep_congr (s := Finset.univ) fun (k : Kind') _ => show _ = (cred (tallyAt (kcell (c, k)) () (dueK k)) : sProp 𝕄)
    from congrArg cred (launch_kcell c k))).trans ?_
  rw [bigSep_kinds]
  unfold creds
  iintro ⟨HB, -, HR, -, HA⟩
  isplitl [HB]; · iexact HB
  isplitl [HR]; · iexact HR
  iexact HA

end Cert.KernelIdeal.Run
-- ==== Proof.Run.lean ====
/- The run of the whole program: from any memory with all counters at zero, every device ends with the result
   computed in its array, its arguments unchanged and all counters at zero. -/
module

public import proofs.«01_k».proof.Proof.Alloc
public import proofs.«01_k».proof.Proof.Gen.KernelIdeal.Points
public import Idealize.ShloMosaic.Lib.Pipeline.ValueKit
public import Idealize.ShloMosaic.Lib.Pipeline.CollectiveSegs

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat BodyObligation)

/-- What device `c`'s body starts from, its scratch buffers apart, -/
def start (c : Dev nD) : sProp 𝕄 := iprop(G' m c ∗ creds c ∗ levAts L lv ∗ args m c)
/-- with them, -/
def Φ₀ (c : Dev nD) : sProp 𝕄 := iprop(start m c ∗ scratch c)
/-- and what it leaves. -/
def Φ₁ (c : Dev nD) : sProp 𝕄 := iprop((args m c ∗ ksems c ∗ lsems c ∗ spare c) ∗ scratch c)

/-- The proof data of the one pipelined call: its one window is the result, written back once. -/
def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- Every window is owned whole. -/
theorem share_eq (c : Dev nD) (w : Fin cfg0.W) : (dats m 0 c).share w = fullShare := by unfold Dat.share; split <;> rfl

/-! ## The body -/

omit [FloatOps F] in
/-- A whole array owned through its view. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer of the device, holding `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device starts from. -/
def atStart (c : Dev nD) : sProp 𝕄 :=
  iprop(Φ₀ m c ∗ (dats m 0 c).owesAt () (Fin.castSucc (t0_0 : Fin cfg0.N)) ∗ ∃ d, stg c cc0_stg0_0 ((dats m 0 c).before (0 : Fin 1) t0_0 d))
/-- What a device ends with. -/
def atEnd (c : Dev nD) : sProp 𝕄 :=
  iprop(Φ₁ m c ∗ (dats m 0 c).owesAt () (Fin.succ (t0_0 : Fin cfg0.N)) ∗ stg c cc0_stg0_0 (outC m c))

/-- The device's program, from what the launch leaves it with to what the call expects. -/
theorem sound_prog (c : Dev nD) : atStart m c ⊢ WP c (prog (F := F)) fun _ => atEnd m c := by
  show _ ⊢ WP c (.op .deviceId fun d => progAt d) _
  unfold WP
  rw [wp_deviceId, show progAt (F := F) c = progAt c >>= Prog.ret from (bind_pure _).symm]
  unfold atStart Φ₀ start G' Dat.owesAt Pipeline.owesWithin stg
  iintro ⟨⟨⟨⟨%K, HK, Hlin, HL, HS⟩, Hcr, Hlev, HA⟩, Hscr⟩, ⟨%W, -, HO⟩, ⟨%d, %f, -, HY⟩⟩
  iapply (wp_progAt m K c) $$ [HK Hlin HL Hcr Hlev HA Hscr HO HY]
  · unfold bodyPre
    isplitl [HK]; · iexact HK
    isplitl [Hlev]; · iexact Hlev
    isplitl [Hlin]; · iexact Hlin
    isplitl [Hcr]; · iexact Hcr
    isplitl [HL]; · iexact HL
    isplitl [HA]; · iexact HA
    isplitl [Hscr]; · iexact Hscr
    isplitl [HO]; · unfold owesE; iexists W; iexact HO
    iexists f; iexact HY
  unfold bodyPost
  iintro ⟨HZ, HL, HA, Hscr, HO, HY⟩
  unfold WP owesE
  icases HO with ⟨%W', HO⟩
  rw [wp_ret]; imodintro
  unfold atEnd Φ₁ Dat.owesAt Pipeline.owesWithin
  isplitl [HA HZ HL HS Hscr]
  · isplitr [Hscr]
    · isplitl [HA]; · iexact HA
      isplitl [HZ]; · iexact HZ
      isplitl [HL] <;> iassumption
    iexact Hscr
  isplitl [HO]
  · iexists W'
    isplitr; · ipureintro; exact fun _ _ => Or.inl trivial
    iexact HO
  unfold stg
  iexists _; isplitr; · (ipureintro; rfl)
  iexact HY

set_option maxRecDepth 100000 in
/-- What the pipelined call expects of the body. -/
theorem body_obligation (c : Dev nD) : BodyObligation (dats m 0 c) (defs₀ (F := F)) Variants.none () Set.univ := fun t => by
  rw [fin_N0 t]
  rw [bigSep_W0, bigSep_W0]
  simp only [owns_whole_eq]
  show atStart m c ⊢ wp frame (wpE (defs₀ (F := F)) Variants.none c none) Set.univ (bodyAt0 (F := F) t0_0) (fun _ => atEnd m c)
  rw [bodyAt_eq]
  exact sound_prog m c

/-! ## The launch's side conditions -/

/-- The launch gives what the body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none, unscopedRest0_eq]
  iintro ⟨HA, Hlev, Hcr, -, HG⟩
  ihave Hc := (creds_intro (F := F) c) $$ Hcr
  imodintro
  isplitl
  · unfold start
    isplitl [HG]; · iexact HG
    isplitl [Hc]; · iexact Hc
    isplitl [Hlev]; · iexact Hlev
    unfold args mx mw; iexact HA
  · iempintro

/-- The entry of the region. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- The exit of the region. -/
theorem phi1_exit (c : Dev nD) :
    (dats m 0 c).Φ (Fin.last cfg0.N) ⊢ iprop((args m c ∗ unscopedSems0 c) ∗ owns0 c ∗ Pipeline.scopedRest cfg0.spec c) := by
  rw [show (dats m 0 c).Φ (Fin.last cfg0.N) = Φ₁ m c from rfl, scopedRest0_eq]
  unfold Φ₁ scratch
  iintro ⟨⟨HA, HK, HL, HS⟩, Hr⟩
  ihave H := (sems0_eq (F := F) c).2 $$ [HK HL HS]
  · isplitl [HL]; · iexact HL
    isplitl [HS] <;> iassumption
  icases H with ⟨Ho, Hu⟩
  isplitl [HA Hu]
  · isplitl [HA] <;> iassumption
  isplitl [Ho]; · iexact Ho
  iexact Hr

/-- The region's own waits are allowed. -/
theorem waits (c : Dev nD) : (levAts L lv : sProp 𝕄) ⊢ Pipeline.cellsWaits cfgs (dats m) () 0 c :=
  Pipeline.cellsWaits_intro cfgs (dats m) () 0 c fun w s t =>
    mayWait c _ 0 (by
        fin_cases w; fin_cases s
        rw [kindOf_none (by decide)]; exact Nat.le_refl 0)
      (by
        rcases t with ⟨_ | _, ht⟩
        · exact above_O₀ c
        · exact above_zero 0)

/-- The result's array at the end: what the body left in the window's buffer. -/
theorem final_out (c : Dev nD) : (dats m 0 c).arrAt (0 : Fin 1) cfg0.N = outC m c := by
  refine (dats m 0 c).arrAt_eq_of_covers (0 : Fin 1) (outC m c) (by decide +kernel) (fun t _ y => ?_)
  rw [fin_N0 t] at y ⊢
  refine congrArg (outC m c) (funext fun a => Fin.ext ?_)
  fin_cases a <;> simp [win0_0] <;> rfl

set_option maxRecDepth 100000 in
/-- The whole run, for any float values: it terminates and leaves on every device the result `outC`, the arguments
    as they were and every counter at zero. -/
theorem run_main : θ_run defs (onTc (τ := τ) (main (F := F))) ⟨m, fun _ => 0, ρ⟩ (fun r =>
    (∀ c : Dev nD, r.2.mem ((c : Thread nD τ).loc main_v1) = outC m c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (show (ownU u₀ : sProp 𝕄) ⊢ iprop(BI.own (EP (initOf (Pipeline.cells cfgs cellOf_inj) (Pipeline.launchToks cfgs cellOf_inj)))
          ∗ BI.own (ER (initOf cells tokens))) from by
        unfold u₀ ER
        exact BI.own_op_elim ((uEmb (nD := nD) (sig := sig) (Ix := Unit) (Val := Elt F) (Name := ℕ) (U := UU) (Lvl := ℕ)).toEmb.op_of_mem
          (Prod.mk_mem_op (URA.mem_op_one _) (URA.mem_one_op (initOf cells tokens, (1 : Counters)))))) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(args m c ∗ unscopedSems0 c)) (Z := fun _ => iprop(emp))
    (hX := start_intro m ρ) (hin := phi0_intro m) (hout := phi1_exit m)
    (QY := fun c s => (s.mem ((c : Thread nD τ).loc main_arg0) = m ((c : Thread nD τ).loc main_arg0)
        ∧ s.mem ((c : Thread nD τ).loc main_arg1) = m ((c : Thread nD τ).loc main_arg1))
      ∧ ∀ sm : SemLoc sig, sm.isScoped .tc = false → s.sem ((c.tc : Thread nD τ), sm) = 0)
    (hY := fun c s' => by
      unfold args mx mw
      iintro ⟨⟨⟨H0, H1⟩, Hu⟩, -, HSI⟩
      icombine HSI H0 gives %h0
      icombine HSI H1 gives %h1
      imod (Pipeline.unscopedSems0_read (X := unscopedSems0 c) (c := c) fupd_intro s') $$ [Hu HSI] with H
      · isplitl [Hu] <;> iassumption
      icases H with ⟨%h, HSI⟩
      imodintro
      isplitr; · ipureintro; exact ⟨⟨Buf.eq_of_forall_mem_univ h0, Buf.eq_of_forall_mem_univ h1⟩, h⟩
      iexact HSI)
    (hQ := fun _ h hs => ⟨fun c => ⟨((h c).1 0).trans (final_out m c), (h c).2.2.1⟩, sem_eq_zero hs fun c => (h c).2.2.2⟩)

end Cert.KernelIdeal.Run
-- ==== Proof.Frames.lean ====
/- The three programs run to the end, leave their arguments as they were and every counter at zero. -/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

/-- The run without the result, for any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Run.run_main (F := F) m ρ)

set_option maxRecDepth 100000 in
/-- The kernel as printed runs, changes no argument and leaves every counter at zero. -/
theorem frame_kernel : Cert.quiescent_Kernel := fun m ρ _ =>
  Eq.mp (by sl_kernel_rfl) (frame_any (F := Bits) m ρ)

/-- So does the kernel over the extended reals. -/
theorem frame_kernelIdeal : Cert.quiescent_KernelIdeal := fun m ρ _ => frame_any (F := Ideal) m ρ

/-- So does the reference, which has no counter. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Proof

end
-- ==== Proof.TileValue.lean ====
/- The partial products read at an index, at the ideal values: a column tile after its four products is, entry by
   entry, the sum over all 4096 contracted positions of the whole matrices, of which the devices hold the blocks. -/
module

public import proofs.«01_k».proof.Proof.Contents
public import Idealize.ShloMosaic.Lib.MatmulPlain
public import Idealize.ShloMosaic.Lib.Pipeline.Value
public import Idealize.ShloMosaic.Lib.Layout

@[expose] public section

noncomputable section

namespace Cert.KernelIdeal.Run

open Idealize.ShloMosaic Idealize.ShloMosaic.TcCoe Idealize.SL.Sem Cert.KernelIdeal Cert.KernelIdeal.Gen
open Idealize.ShloMosaic.ValueIdx
open scoped BigOperators

/-! ## Where the blocks lie -/

/-- Where the row block that stays starts. -/
theorem own_off (c : Dev nD) : k0_off1 c = ![1024 * c.val, 0] := by
  funext a; fin_cases a <;> (revert c; decide)
/-- Where the row block that goes to the device `i + 1` further starts. -/
theorem send_off (c : Dev nD) (i : Fin 3) : k0_off2 c (BitVec.ofNat 32 (1 + i.val)) = ![1024 * (sh c (i.val + 1)).val, 0] := by
  funext a; fin_cases a <;> (revert c i; decide)
/-- Where a weight tile starts. -/
theorem tile_off (c : Dev nD) (q : Fin 4) (j : Fin 8) : woff c q j = ![1024 * (sh c q.val).val, 1024 * j.val] := by
  funext a; fin_cases a <;> (revert c q j; decide)

/-- Position `k` of block `d` among `n` blocks of 1024. -/
def at1024 {n N : ℕ} (h : N = n * 1024) (d : Fin n) (k : Fin 1024) : Fin N := ⟨1024 * d.val + k.val, by omega⟩

section
variable {F : FTy → Type} [FloatOps F]
variable (m : (ℓ : Loc nD τ sig) → Buf (Elt F) ℓ)

/-- A row block that stays, entry by entry. -/
theorem kept_apply (c : Dev nD) (r k : Fin 1024) : kept m c (ix2 r k) = mx m c (ix2 (at1024 (n := 4) rfl c r) k) := by
  have h := own_off c
  show mx m c ((Rect.unit (s := S4096x1024) (k0_off1 c) S1024x1024.size (k0_off1_inb c)).emb (ix2 r k)) = _
  congr 1
  funext a
  apply Fin.ext
  match a with
  | ⟨0, _⟩ => show k0_off1 c 0 + 1 * r.val = 1024 * c.val + r.val; rw [h]; simp
  | ⟨1, _⟩ => show k0_off1 c 1 + 1 * k.val = k.val; rw [h]; simp

/-- A row block that travels, entry by entry. -/
theorem sent_apply (c : Dev nD) (i : Fin 3) (r k : Fin 1024) :
    sent m c i (ix2 r k) = mx m c (ix2 (at1024 (n := 4) rfl (sh c (i.val + 1)) r) k) := by
  have h := send_off c i
  show mx m c ((Rect.unit (s := S4096x1024) (k0_off2 c (BitVec.ofNat 32 (1 + i.val))) S1024x1024.size (k0_off2_inb c i)).emb (ix2 r k)) = _
  congr 1
  funext a
  apply Fin.ext
  match a with
  | ⟨0, _⟩ => show k0_off2 c (BitVec.ofNat 32 (1 + i.val)) 0 + 1 * r.val = 1024 * (sh c (i.val + 1)).val + r.val; rw [h]; simp
  | ⟨1, _⟩ => show k0_off2 c (BitVec.ofNat 32 (1 + i.val)) 1 + 1 * k.val = k.val; rw [h]; simp

/-- Slot `q` of device `c` holds row block `c` of the columns of the device `q` further. -/
theorem slotC_apply (c : Dev nD) (q : Fin 4) (r k : Fin 1024) :
    slotC m c q (ix2 r k) = mx m (sh c q.val) (ix2 (at1024 (n := 4) rfl c r) k) := by
  refine q.cases ?_ fun i => ?_
  · show kept m c (ix2 r k) = mx m (sh c 0) _
    rw [sh_zero]; exact kept_apply m c r k
  · rw [slotC_succ, sent_apply, sh_back]; rfl

/-- A weight tile, entry by entry. -/
theorem wtile_apply (c : Dev nD) (q : Fin 4) (j : Fin 8) (k s : Fin 1024) :
    wtile m c q j (ix2 k s) = mw m c (ix2 (at1024 (n := 4) rfl (sh c q.val) k) (at1024 (n := 8) rfl j s)) := by
  have h := tile_off c q j
  show mw m c ((Rect.unit (s := S4096x8192) (woff c q j) S1024x1024.size (woff_inb c q j)).emb (ix2 k s)) = _
  congr 1
  funext a
  apply Fin.ext
  match a with
  | ⟨0, _⟩ => show woff c q j 0 + 1 * k.val = 1024 * (sh c q.val).val + k.val; rw [h]; simp
  | ⟨1, _⟩ => show woff c q j 1 + 1 * s.val = 1024 * j.val + s.val; rw [h]; simp

/-- A tile as the double buffer holds it, read as a matrix again. -/
theorem cast_stacked (X : Vec F S1024x1024 .f32) :
    shapeCast S1024x1024 (stacked X) shapeCasts_S1x1024x1024_S1024x1024 = X := by
  funext y
  exact congrArg X (Equiv.symm_apply_apply _ y)
end

/-! ## The products at the ideal values -/

/-- The zero word denotes zero. -/
theorem zero_word : (FloatOps.ofBits (F := Ideal) .f32 0x00000000#32) = (0 : EReal) := by
  simp [Ideal.ofBits, Ideal.ieee]

/-- The first product of a column tile, entry by entry. -/
theorem pay1_apply (A : Vec Ideal S1024x1024 .bf16) (B : Vec Ideal S1024x1024 .f32) (r s : Fin 1024) :
    k0_pay1 A (stacked B) (ix2 r s) = (∑ k : Fin 1024, (A (ix2 r k) : EReal) * B (ix2 k s) : EReal) := by
  unfold k0_pay1
  rw [cast_stacked]
  refine (Ideal.matmul_plain_apply none A (truncf .bf16 B bitsLt_bf16_f32) _ r s).trans ?_
  show (FloatOps.ofBits (F := Ideal) .f32 0x00000000#32 : EReal) + _ = _
  rw [zero_word, zero_add]; rfl

/-- A later product of a column tile, entry by entry. -/
theorem pay9_apply (A : Vec Ideal S1024x1024 .bf16) (B C : Vec Ideal S1024x1024 .f32) (r s : Fin 1024) :
    k0_pay9 A (stacked B) C (ix2 r s) = ((C (ix2 r s) : EReal) + ∑ k : Fin 1024, (A (ix2 r k) : EReal) * B (ix2 k s) : EReal) := by
  rw [← pay1_apply A B r s]
  unfold k0_pay9 k0_pay1
  rw [shapeCast_self]; rfl

/-! ## The whole sum -/

/-- A sum over 4096 positions by blocks of 1024. -/
theorem sum_blocks (f : Fin 4096 → EReal) : ∑ k, f k = ∑ d : Fin 4, ∑ k : Fin 1024, f (at1024 (n := 4) rfl d k) := by
  rw [← Fintype.sum_prod_type', ← Equiv.sum_comp (finProdFinEquiv (m := 4) (n := 1024)) (f : Fin (4 * 1024) → EReal)]
  refine Finset.sum_congr rfl fun p _ => congrArg f (Fin.ext ?_)
  show p.2.val + 1024 * p.1.val = 1024 * p.1.val + p.2.val
  omega

/-- Going round the ring from device `c` in the order 0, 1, 3, 2 meets every device once. -/
theorem sum_ring (c : Dev nD) (T : Fin 4 → EReal) : T (sh c 0) + T (sh c 1) + T (sh c 3) + T (sh c 2) = ∑ d, T d := by
  rw [Fin.sum_univ_four]
  have key : ∀ c : Dev nD, c = 0 ∨ c = 1 ∨ c = 2 ∨ c = 3 := by decide
  rcases key c with rfl | rfl | rfl | rfl
  · show T 0 + T 1 + T 3 + T 2 = _; ac_rfl
  · show T 1 + T 2 + T 0 + T 3 = _; ac_rfl
  · show T 2 + T 3 + T 1 + T 0 = _; ac_rfl
  · show T 3 + T 0 + T 2 + T 1 = _; ac_rfl

/-- A column tile after its four products: where every device holds its columns of `X` and all of `W`, the sum over
    all contracted positions. -/
theorem p3_apply (m : (ℓ : Loc nD τ sig) → Buf (Elt Ideal) ℓ) (X : Fin 4096 → Fin 4096 → EReal) (W : Fin 4096 → Fin 8192 → EReal)
    (hx : ∀ d r k, mx m d (ix2 r k) = X r (at1024 (n := 4) rfl d k)) (hw : ∀ d r k, mw m d (ix2 r k) = W r k)
    (c : Dev nD) (j : Fin 8) (r s : Fin 1024) :
    p3 m c j (ix2 r s) = ∑ k, X (at1024 (n := 4) rfl c r) k * W k (at1024 (n := 8) rfl j s) := by
  have hT : ∀ q : Fin 4, (∑ k : Fin 1024, (slotC m c q (ix2 r k) : EReal) * wtile m c q j (ix2 k s) : EReal)
      = ∑ k : Fin 1024, X (at1024 (n := 4) rfl c r) (at1024 (n := 4) rfl (sh c q.val) k)
          * W (at1024 (n := 4) rfl (sh c q.val) k) (at1024 (n := 8) rfl j s) := fun q =>
    Finset.sum_congr rfl fun k _ => by rw [slotC_apply, wtile_apply, hx, hw]
  unfold p3 p2 p1 p0
  rw [pay9_apply, pay9_apply, pay9_apply, pay1_apply, hT, hT, hT, hT, sum_blocks]
  exact sum_ring c fun d => ∑ k : Fin 1024, X (at1024 (n := 4) rfl c r) (at1024 (n := 4) rfl d k)
    * W (at1024 (n := 4) rfl d k) (at1024 (n := 8) rfl j s)

end Cert.KernelIdeal.Run
-- ==== Proof.Rounding.lean ====
/- Rounding to a grid over the extended reals: multiplying by 127 over the maximum, as the kernel does, and dividing by
   the maximum over 127, as the reference does, round every value to the same grid point, whatever the maximum. -/
module

public import Idealize.ShloMosaic.PureOps.Ideal.Laws

@[expose] public section

noncomputable section

namespace Cert.Proof

open Idealize.ShloMosaic

/-- The word of 127 denotes 127. -/
theorem word_127 : Ideal.ofBits .f32 0x42FE0000#32 = ((127 : ℝ) : EReal) := by
  simp [Ideal.ofBits, Ideal.ieee, -EReal.coe_mul]; norm_num
/-- The word of negative infinity denotes the least extended real. -/
theorem word_neg_inf : Ideal.ofBits .f32 0xFF800000#32 = (⊥ : EReal) := by
  simp [Ideal.ofBits, Ideal.ieee]

/-- Off zero the two ways to scale a value agree. -/
theorem scaled_eq (y g : EReal) (hg : g ≠ 0) :
    y * Ideal.div ((127 : ℝ) : EReal) g = Ideal.div y (Ideal.div g ((127 : ℝ) : EReal)) := by
  have h127 : ((127 : ℝ) : EReal) ≠ 0 := by exact_mod_cast (by norm_num : (127 : ℝ) ≠ 0)
  have hs : Ideal.div g ((127 : ℝ) : EReal) = g * ((127 : ℝ) : EReal)⁻¹ := if_neg h127
  rw [hs]
  induction g using EReal.rec with
  | bot =>
    have e : (⊥ : EReal) * ((127 : ℝ) : EReal)⁻¹ = ⊥ := by
      rw [← EReal.coe_inv]; exact EReal.bot_mul_coe_of_pos (by norm_num)
    rw [e]; simp [Ideal.div]
  | top =>
    have e : (⊤ : EReal) * ((127 : ℝ) : EReal)⁻¹ = ⊤ := by
      rw [← EReal.coe_inv]; exact EReal.top_mul_coe_of_pos (by norm_num)
    rw [e]; simp [Ideal.div]
  | coe g =>
    have hg' : g ≠ 0 := by rintro rfl; exact hg rfl
    have e : ((g : ℝ) : EReal) * ((127 : ℝ) : EReal)⁻¹ = ((g * 127⁻¹ : ℝ) : EReal) := by
      rw [← EReal.coe_inv, ← EReal.coe_mul]
    have hne : ((g * 127⁻¹ : ℝ) : EReal) ≠ 0 := by
      exact_mod_cast mul_ne_zero hg' (by norm_num)
    rw [e, Ideal.div, if_neg hg, Ideal.div, if_neg hne, ← EReal.coe_inv, ← EReal.coe_inv, ← EReal.coe_mul]
    congr 2
    field_simp

/-- The kernel's rounding and the reference's agree for every rounding `R` of the scaled value (clipping included). -/
theorem rounded_eq (R : EReal → EReal) (y g : EReal) :
    R (y * Ideal.div ((127 : ℝ) : EReal) g) * Ideal.div g ((127 : ℝ) : EReal)
      = R (Ideal.div y (Ideal.div g ((127 : ℝ) : EReal))) * Ideal.div g ((127 : ℝ) : EReal) := by
  by_cases hg : g = 0
  · have h127 : ((127 : ℝ) : EReal) ≠ 0 := by exact_mod_cast (by norm_num : (127 : ℝ) ≠ 0)
    have hs : Ideal.div g ((127 : ℝ) : EReal) = 0 := by rw [hg, Ideal.div, if_neg h127, zero_mul]
    rw [hs, mul_zero, mul_zero]
  · rw [scaled_eq y g hg]

end Cert.Proof
-- ==== Proof.MaxValue.lean ====
/- The maxima, at the ideal values, by their upper bounds: what bounds a tile's largest magnitude, a device's local
   maximum, and the maximum of the gathered blocks, which is the same on every device. -/
module

public import proofs.«01_k».proof.Proof.Contents
public import proofs.«01_k».proof.Proof.Rounding
public import Idealize.ShloMosaic.PureOps.Ideal.Laws
public import Idealize.ShloMosaic.PureOps.Reduce

@[expose] public section

noncomputable section

namespace Cert.KernelIdeal.Run

open Idealize.ShloMosaic Idealize.ShloMosaic.TcCoe Idealize.SL.Sem Cert.KernelIdeal Cert.KernelIdeal.Gen
open Idealize.ShloMosaic.ValueIdx

/-- The magnitude of an extended real. -/
def mag (x : EReal) : EReal := max x (-x)

/-- A maximum over a whole array from negative infinity is bounded where every entry is. -/
theorem reduce_max_le {s t : Shape} {axes : List (Fin s.rank)} [Subsingleton t.Idx] (src : FVec Ideal s .f32)
    (h : s.Reduces axes t) (hφ : FKind.Formats .f32) (hacc : 0xFF800000#32 = FKind.maximumf.neutral .f32 hφ) (j : t.Idx) (b : EReal) :
    (multiReduction .maximumf axes t src 0xFF800000#32 h hφ hacc j : EReal) ≤ b ↔ ∀ i, (src i : EReal) ≤ b := by
  rw [multiReduction_maximumf_eq_fold]
  refine (Finset.fold_max_le (s := Finset.univ.filter fun i => h.drop i = j) (f := (src : s.Idx → EReal))
    (b := (FloatOps.ofBits (F := Ideal) .f32 0xFF800000#32 : EReal)) b).trans ?_
  rw [show (FloatOps.ofBits (F := Ideal) .f32 0xFF800000#32 : EReal) = ⊥ from Cert.Proof.word_neg_inf]
  exact ⟨fun H i => H.2 i (Finset.mem_filter.2 ⟨Finset.mem_univ i, Subsingleton.elim _ _⟩), fun H => ⟨bot_le, fun i _ => H i⟩⟩

/-- An array of one entry has one index. -/
instance : Subsingleton S1.Idx := ⟨fun a b => by
  funext d; apply Fin.ext
  match d with
  | ⟨0, _⟩ => have h1 : (a 0).val < 1 := (a 0).isLt; have h2 : (b 0).val < 1 := (b 0).isLt; show (a 0).val = (b 0).val; omega⟩

/-- A tile's largest magnitude. -/
theorem tileMax_le (v : Vec Ideal S1024x1024 .f32) (b : EReal) :
    (tileMax v : EReal) ≤ b ↔ ∀ r s : Fin 1024, mag (v (ix2 r s)) ≤ b := by
  unfold tileMax extractAt
  refine (reduce_max_le (t := S1) _ _ _ _ _ b).trans ⟨fun H r s => ?_, fun H i => ?_⟩
  · have e := H ((Shape.reshapeEquiv shapeCasts_S1024x1024_S1x1024x1024).symm (ix2 r s))
    unfold shapeCast at e
    rw [Equiv.apply_symm_apply] at e
    exact e
  · unfold shapeCast
    rw [eq_ix2 (Shape.reshapeEquiv shapeCasts_S1024x1024_S1x1024x1024 i)]
    exact H _ _

variable (m : (ℓ : Loc nD τ sig) → Buf (Elt Ideal) ℓ)

/-- The greatest of eight, every entry of the block that holds it. -/
theorem pay49_apply (f : Fin 8 → Ideal .f32) (y : S8x128.Idx) :
    (k0_pay49 (f 0) (f 1) (f 2) (f 3) (f 4) (f 5) (f 6) (f 7) y : EReal)
      = max (max (max (max (max (max (max (f 0 : EReal) (f 1)) (f 2)) (f 3)) (f 4)) (f 5)) (f 6)) (f 7) := rfl

/-- The greatest of eight is bounded where each is. -/
theorem max8_le (f : Fin 8 → EReal) (b : EReal) :
    max (max (max (max (max (max (max (f 0) (f 1)) (f 2)) (f 3)) (f 4)) (f 5)) (f 6)) (f 7) ≤ b ↔ ∀ j, f j ≤ b := by
  simp only [max_le_iff]
  refine ⟨fun H j => ?_, fun H => ⟨⟨⟨⟨⟨⟨⟨H 0, H 1⟩, H 2⟩, H 3⟩, H 4⟩, H 5⟩, H 6⟩, H 7⟩⟩
  obtain ⟨⟨⟨⟨⟨⟨⟨h0, h1⟩, h2⟩, h3⟩, h4⟩, h5⟩, h6⟩, h7⟩ := H
  fin_cases j <;> assumption

/-- A device's local maximum. -/
theorem lmax_le (c : Dev nD) (b : EReal) : (lmax m c : EReal) ≤ b ↔ ∀ j, (tileMax (p3 m c j) : EReal) ≤ b := by
  unfold lmax lblk
  generalize hf : (fun j => tileMax (p3 m c j)) = f
  have e : ∀ j, tileMax (p3 m c j) = f j := fun j => congrFun hf j
  simp only [e]
  rw [pay49_apply f]
  exact max8_le f b

/-- The maximum of the gathered blocks. -/
theorem gath_le (c : Dev nD) (b : EReal) : (k0_pay50 (gath m c) : EReal) ≤ b ↔ ∀ d : Dev nD, (lmax m d : EReal) ≤ b := by
  unfold k0_pay50 extractAt
  have back : ∀ d : Dev nD, ∃ r : Fin 4, sh c r.val = d := by revert c; decide
  refine (reduce_max_le (t := S1) _ _ _ _ _ b).trans ⟨fun H d => ?_, fun H i => H _⟩
  obtain ⟨r, rfl⟩ := back d
  have e := H ((Shape.reshapeEquiv shapeCasts_S32x128_S1x32x128).symm (ix2 (⟨8 * r.val, by omega⟩ : Fin 32) (0 : Fin 128)))
  unfold shapeCast at e
  rw [Equiv.apply_symm_apply] at e
  have e' : (lmax m (sh c (8 * r.val / 8)) : EReal) ≤ b := e
  rwa [Nat.mul_div_cancel_left _ (by decide)] at e'

end Cert.KernelIdeal.Run
-- ==== Proof.RefValue.lean ====
/- The reference at the ideal values: its product entry by entry, its maximum by the upper bounds, and its result entry
   by entry. -/
module

public import proofs.«01_k».proof.Proof.Gen.ReferenceIdeal.Run
public import proofs.«01_k».proof.Proof.Rounding
public import Idealize.ShloMosaic.Lib.IdealHost
public import Idealize.ShloMosaic.Lib.StackMember
public import Idealize.ShloMosaic.PureOps.Ideal.Laws
public import Idealize.ShloMosaic.PureOps.Reduce

@[expose] public section

noncomputable section

namespace Cert.ReferenceIdeal.Read

open Idealize.ShloMosaic Idealize.ShloMosaic.TcCoe Idealize.SL.Sem Cert.ReferenceIdeal Cert.ReferenceIdeal.Gen
open Idealize.ShloMosaic.ValueIdx
open scoped BigOperators

/-- The product of the two arguments. -/
def prod (x : Vec Ideal S4096x4096 .bf16) (w : Vec Ideal S4096x8192 .f32) : FVec Ideal S4096x8192 .f32 :=
  Host.dotGeneral (φ₂ := .f32) dot_S4096x4096_S4096x8192_S4096x8192_1_0_0_1_n_n none (extf .f32 x bitsLt_bf16_f32) w

/-- It is the matrix product. -/
theorem prod_apply (x : Vec Ideal S4096x4096 .bf16) (w : Vec Ideal S4096x8192 .f32) (r : Fin 4096) (s : Fin 8192) :
    (prod x w (ix2 r s) : EReal) = ∑ k : Fin 4096, (x (ix2 r k) : EReal) * w (ix2 k s) :=
  StackMember.dotGeneral_plain_apply none (extf .f32 x bitsLt_bf16_f32) w r s

/-- The largest magnitude of an array. -/
def top (Y : FVec Ideal S4096x8192 .f32) : FVec Ideal S_ .f32 :=
  Host.reduce FloatOps.maximumf (Host.absf Y) (constant S_ .f32 0xFF800000#32) reducesTo_S4096x8192_S_d0_1 h_S_

/-- It is bounded where every magnitude is. -/
theorem top_le (Y : FVec Ideal S4096x8192 .f32) (b : EReal) :
    (top Y ix0 : EReal) ≤ b ↔ ∀ (r : Fin 4096) (s : Fin 8192), max (Y (ix2 r s) : EReal) (-(Y (ix2 r s) : EReal)) ≤ b := by
  unfold top
  rw [Host.reduce_eq_fold]
  refine (Finset.fold_max_le (s := Finset.univ.filter fun i => reducesTo_S4096x8192_S_d0_1.drop i = ix0)
    (f := (Host.absf Y : S4096x8192.Idx → EReal)) (b := (FloatOps.ofBits (F := Ideal) .f32 0xFF800000#32 : EReal)) b).trans ?_
  rw [show (FloatOps.ofBits (F := Ideal) .f32 0xFF800000#32 : EReal) = ⊥ from Cert.Proof.word_neg_inf]
  refine ⟨fun H r s => H.2 (ix2 r s) (Finset.mem_filter.2 ⟨Finset.mem_univ _, (eq_ix0 _)⟩), fun H => ⟨bot_le, fun i _ => ?_⟩⟩
  rw [eq_ix2 i]
  exact H _ _

/-- An array rounded to the grid of its largest magnitude. -/
def rounded (Y : FVec Ideal S4096x8192 .f32) : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf Y (broadcastInDim S4096x8192 ![] bcast_S_S4096x8192
        (Host.divf (top Y) (constant S_ .f32 0x42FE0000#32)))))))
    (broadcastInDim S4096x8192 ![] bcast_S_S4096x8192 (Host.divf (top Y) (constant S_ .f32 0x42FE0000#32)))

/-- The nearest point of the grid, clipped. -/
def clipRound (z : EReal) : EReal :=
  min (Ideal.ofBits .f32 0x42FE0000#32) (max (Ideal.ofBits .f32 0xC2FE0000#32) (Ideal.liftRound Ideal.roundHalfEven z))

/-- Entry by entry. -/
theorem rounded_apply (Y : FVec Ideal S4096x8192 .f32) (i : S4096x8192.Idx) :
    (rounded Y i : EReal) = clipRound (Ideal.div (Y i) (Ideal.div (top Y ix0) ((127 : ℝ) : EReal))) * Ideal.div (top Y ix0) ((127 : ℝ) : EReal) := by
  rw [← Cert.Proof.word_127]
  unfold rounded
  generalize top Y = T
  have hb : ∀ v : FVec Ideal S_ .f32, broadcastInDim S4096x8192 ![] bcast_S_S4096x8192 v i = v ix0 := fun v =>
    broadcastInDim_scalar_apply bcast_S_S4096x8192 v i
  have read : ∀ a b c d : FVec Ideal S4096x8192 .f32,
      (mulf (minimumf a (maximumf b (Host.roundeven (Host.divf Y c)))) d i : EReal)
        = min (a i : EReal) (max (b i : EReal) (Ideal.liftRound Ideal.roundHalfEven (Ideal.div (Y i) (c i)))) * d i :=
    fun _ _ _ _ => rfl
  rw [read, hb, hb, hb]
  rfl

end Cert.ReferenceIdeal.Read
-- ==== Proof.Value.lean ====
/- The equation: every device's result is its block of the reference's. -/
module

public import proofs.«01_k».proof.Defs
public import proofs.«01_k».proof.Proof.TileValue
public import proofs.«01_k».proof.Proof.MaxValue
public import proofs.«01_k».proof.Proof.RefValue
public import proofs.«01_k».proof.Proof.Run

@[expose] public section

noncomputable section

namespace Cert.Proof

open Idealize.ShloMosaic hiding ix0 ix2 eq_ix2
open Idealize.ShloMosaic.TcCoe Idealize.SL.Sem
open Idealize.ShloMosaic.ValueIdx
open Cert.KernelIdeal (nD τ sig)
open Cert.KernelIdeal.Run Cert.ReferenceIdeal.Read
open scoped BigOperators

variable (m : (ℓ : Loc nD τ sig) → Buf (Elt Ideal) ℓ)

/-- A tile rounded to the grid of the gathered maximum, entry by entry. -/
theorem quant_apply (g : Vec Ideal Cert.KernelIdeal.S32x128 .f32) (v : Vec Ideal Cert.KernelIdeal.S1024x1024 .f32)
    (y : Cert.KernelIdeal.S1024x1024.Idx) :
    (quant g v y : EReal) = clipRound ((v y : EReal) * Ideal.div ((127 : ℝ) : EReal) (Cert.KernelIdeal.Gen.k0_pay50 g))
      * Ideal.div (Cert.KernelIdeal.Gen.k0_pay50 g) ((127 : ℝ) : EReal) := by
  rw [← word_127]
  unfold quant Cert.KernelIdeal.Gen.k0_pay53 Cert.KernelIdeal.Gen.k0_pay52 Cert.KernelIdeal.Gen.k0_pay51
  rw [shapeCast_self]
  generalize Cert.KernelIdeal.Gen.k0_pay50 g = G
  rfl

section
variable (x : Vec Ideal Cert.ReferenceIdeal.S4096x4096 .bf16) (w : Vec Ideal Cert.ReferenceIdeal.S4096x8192 .f32)
variable (hx : ∀ d r k, mx m d (ix2 r k) = x (ix2 r (at1024 (n := 4) rfl d k))) (hw : ∀ d r k, mw m d (ix2 r k) = w (ix2 r k))
include hx hw

/-- A column tile of a device is a tile of the whole product. -/
theorem tile_eq (c : Dev nD) (j : Fin 8) (r s : Fin 1024) :
    (p3 m c j (ix2 r s) : EReal) = prod x w (ix2 (at1024 (n := 4) rfl c r) (at1024 (n := 8) rfl j s)) :=
  (p3_apply m (fun r k => x (ix2 r k)) (fun k s => w (ix2 k s)) hx hw c j r s).trans (prod_apply x w _ _).symm

/-- The maximum that a device gathers is that of the whole product. -/
theorem top_eq (c : Dev nD) : (Cert.KernelIdeal.Gen.k0_pay50 (gath m c) : EReal) = top (prod x w) ix0 := by
  refine eq_of_forall_ge_iff fun b => ?_
  rw [gath_le, top_le]
  simp only [lmax_le, tileMax_le]
  refine ⟨fun H r s => ?_, fun H d j r s => ?_⟩
  · have e := H (⟨r.val / 1024, by omega⟩ : Fin 4) (⟨s.val / 1024, by omega⟩ : Fin 8)
      ⟨r.val % 1024, Nat.mod_lt _ (by decide)⟩ ⟨s.val % 1024, Nat.mod_lt _ (by decide)⟩
    rw [tile_eq m x w hx hw] at e
    have hr : at1024 (N := 4096) (n := 4) rfl ⟨r.val / 1024, by omega⟩ ⟨r.val % 1024, Nat.mod_lt _ (by decide)⟩ = r :=
      Fin.ext (Nat.div_add_mod _ _)
    have hs : at1024 (N := 8192) (n := 8) rfl ⟨s.val / 1024, by omega⟩ ⟨s.val % 1024, Nat.mod_lt _ (by decide)⟩ = s :=
      Fin.ext (Nat.div_add_mod _ _)
    rw [hr, hs] at e
    exact e
  · rw [tile_eq m x w hx hw]
    exact H _ _

/-- A device's result is its block of rows of the rounded product. -/
theorem out_eq (c : Dev nD) :
    (outC m c : (⟨2, ![1024, 8192]⟩ : Shape).Idx → EReal) = Layout.block ⟨2, ![1024, 8192]⟩ ⟨2, ![4096, 8192]⟩ 0 4 c (rounded (prod x w)) := by
  funext y
  obtain ⟨r, s, rfl⟩ : ∃ (r : Fin 1024) (s : Fin 8192), y = ix2 r s := ⟨_, _, eq_ix2 y⟩
  have hy : (Layout.Tiles.idx (S := ⟨2, ![1024, 8192]⟩) (T := ⟨2, ![4096, 8192]⟩) (a := 0) (k := 4) (by decide) c (ix2 r s))
      = ix2 (at1024 (N := 4096) (n := 4) rfl c r) s := by
    funext a
    apply Fin.ext
    match a with
    | ⟨0, _⟩ => show c.val * 1024 + r.val = 1024 * c.val + r.val; omega
    | ⟨1, _⟩ => rfl
  have hs : at1024 (N := 8192) (n := 8) rfl ⟨s.val / 1024, by omega⟩ ⟨s.val % 1024, Nat.mod_lt _ (by decide)⟩ = s :=
    Fin.ext (Nat.div_add_mod _ _)
  show (quant (gath m c) (p3 m c ⟨s.val / 1024, by omega⟩) (ix2 r ⟨s.val % 1024, Nat.mod_lt _ (by decide)⟩) : EReal)
    = rounded (prod x w) (Layout.Tiles.idx (S := ⟨2, ![1024, 8192]⟩) (T := ⟨2, ![4096, 8192]⟩) (a := 0) (k := 4) (by decide) c (ix2 r s))
  rw [hy, quant_apply, rounded_apply, top_eq m x w hx hw, tile_eq m x w hx hw, hs]
  exact rounded_eq clipRound _ _
end

/-- Every device's result is its block of the reference's, from arguments placed alike. -/
theorem algebraic : Cert.algebraic_KernelIdeal_ReferenceIdeal := by
  intro m g m' g' _ hm
  refine ⟨rounded (prod (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · refine (θ_run _ _ _).mono (fun r h c => ⟨(h.1 c).1.trans ?_, (h.1 c).2⟩) (run_main (F := Ideal) m g)
    refine out_eq m _ _ (fun d r k => ?_) (fun d r k => congrFun (hm d).2 _) c
    refine (congrFun (hm d).1 (ix2 r k)).trans (congrArg (m' _) ?_)
    funext a
    apply Fin.ext
    match a with
    | ⟨0, _⟩ => rfl
    | ⟨1, _⟩ => show d.val * 1024 + k.val = 1024 * d.val + k.val; omega
  · exact (θ_run _ _ _).mono (fun r h => h 0) (Cert.ReferenceIdeal.Value.run (F := Ideal) m' g')

end Cert.Proof
-- ==== Proof.lean ====
/- The claims put together: the frames from the runs, `preserves`, for which nothing is rewritten, and the
   value claim from the equation. -/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

/-- Everything claimed: the three frames, `preserves` and `algebraic`. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
